-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_weights [hPre_nonnegative_weights : Cert.Pre_nonnegative_weights.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_weights [hPre_nonnegative_weights : Cert.Pre_nonnegative_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonnegative_weights [hKernelIdeal : Cert.KernelIdeal.Facts] [hPre_nonnegative_weights : Cert.Pre_nonnegative_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_weights m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonnegative_weights [hReferenceIdeal : Cert.ReferenceIdeal.Facts] [hPre_nonnegative_weights : Cert.Pre_nonnegative_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nonnegative_weights [hKernelIdeal : Cert.KernelIdeal.Facts] [hReferenceIdeal : Cert.ReferenceIdeal.Facts] [hPre_nonnegative_weights : Cert.Pre_nonnegative_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonnegative_weights : Cert.Pre_nonnegative_weights.Facts),
    quiescent_Kernel (hKernel := hKernel)
    ∧ quiescent_KernelIdeal (hKernelIdeal := hKernelIdeal)
    ∧ quiescent_KernelIdeal_pre_nonnegative_weights (hKernelIdeal := hKernelIdeal) (hPre_nonnegative_weights := hPre_nonnegative_weights)
    ∧ quiescent_ReferenceIdeal (hReferenceIdeal := hReferenceIdeal)
    ∧ quiescent_ReferenceIdeal_pre_nonnegative_weights (hReferenceIdeal := hReferenceIdeal) (hPre_nonnegative_weights := hPre_nonnegative_weights)
    ∧ preserves_Kernel_KernelIdeal
    ∧ algebraic_KernelIdeal_ReferenceIdeal_pre_nonnegative_weights (hKernelIdeal := hKernelIdeal) (hReferenceIdeal := hReferenceIdeal) (hPre_nonnegative_weights := hPre_nonnegative_weights)
-- ==== Pre_nonnegative_weights.lean ====
abbrev S65536x3 : Shape := ⟨2, ![65536, 3]⟩
abbrev S65536x192 : Shape := ⟨2, ![65536, 192]⟩
abbrev S65536x96 : Shape := ⟨2, ![65536, 96]⟩
abbrev S_ : Shape := ⟨0, ![]⟩
abbrev S65536x190 : Shape := ⟨2, ![65536, 190]⟩

class Facts : Prop where
  slices_S65536x192_S65536x190_0_1 : S65536x192.Slices ![0, 1] S65536x190
  bcast_S_S65536x190 : S_.BroadcastsInDim S65536x190 (![] : Fin 0 → Fin S65536x190.rank)
  reducesTo_S65536x190_S_d0_1 : S65536x190.ReducesTo [0, 1] S_
  h_S_ : 0 < S_.numel

variable [Facts]

def fn {F : FTy → Type} [FloatOps F] (main_arg0 : FVec F S65536x3 .f32) (main_arg1 : FVec F S65536x3 .f32) (main_arg2 : FVec F S65536x192 .f32) (main_arg3 : FVec F S65536x192 .f32) (main_arg4 : FVec F S65536x96 .f32) (main_arg5 : IVec S_ 32) : IVec S_ 1 :=
  let main_v0 : FVec F S65536x190 .f32 := (extractStridedSlice S65536x190 ![0, 1] · slices_S65536x192_S65536x190_0_1) main_arg3
  let main_cst : FVec F S_ .f32 := constant S_ .f32 0x00000000#32
  let main_v1 : FVec F S65536x190 .f32 := broadcastInDim S65536x190 ![] bcast_S_S65536x190 main_cst
  let main_v2 : IVec S65536x190 1 := cmpf .oge main_v0 main_v1
  let main_c : IVec S_ 1 := constantI S_ 1 1#1
  let main_v3 : IVec S_ 1 := (fun x v => Host.reduce IntOp.andi x v reducesTo_S65536x190_S_d0_1 h_S_) main_v2 main_c
  main_v3
-- ==== Kernel.lean ====
abbrev S65536x3 : Shape := ⟨2, ![65536, 3]⟩
abbrev S65536x192 : Shape := ⟨2, ![65536, 192]⟩
abbrev S65536x96 : Shape := ⟨2, ![65536, 96]⟩
abbrev S_ : Shape := ⟨0, ![]⟩
abbrev S512x192 : Shape := ⟨2, ![512, 192]⟩
abbrev S512x190 : Shape := ⟨2, ![512, 190]⟩
abbrev S190x192 : Shape := ⟨2, ![190, 192]⟩
abbrev S512x1 : Shape := ⟨2, ![512, 1]⟩
abbrev S512x191 : Shape := ⟨2, ![512, 191]⟩
abbrev S64x192 : Shape := ⟨2, ![64, 192]⟩
abbrev S64x96 : Shape := ⟨2, ![64, 96]⟩
abbrev S16 : Shape := ⟨1, ![16]⟩
abbrev S1x16 : Shape := ⟨2, ![1, 16]⟩

abbrev nBuf : Table → Nat
  | .hbm => 9
  | .local .tc .vmem => 8
  | .local .scVector .vmem => 4
  | _ => 0

abbrev bufTy : (tb : Table) → Fin (nBuf tb) → BufTy
  | .hbm, ⟨0, _⟩ => ⟨S65536x3, .f32⟩
  | .hbm, ⟨1, _⟩ => ⟨S65536x3, .f32⟩
  | .hbm, ⟨2, _⟩ => ⟨S65536x192, .f32⟩
  | .hbm, ⟨3, _⟩ => ⟨S65536x192, .f32⟩
  | .hbm, ⟨4, _⟩ => ⟨S65536x96, .f32⟩
  | .hbm, ⟨5, _⟩ => ⟨S_, .i32⟩
  | .hbm, ⟨6, _⟩ => ⟨S65536x192, .f32⟩
  | .hbm, ⟨7, _⟩ => ⟨S65536x192, .f32⟩
  | .hbm, ⟨8, _⟩ => ⟨S65536x96, .f32⟩
  | .local .tc .vmem, ⟨0, _⟩ => ⟨S512x192, .f32⟩
  | .local .tc .vmem, ⟨1, _⟩ => ⟨S512x192, .f32⟩
  | .local .tc .vmem, ⟨2, _⟩ => ⟨S512x192, .f32⟩
  | .local .tc .vmem, ⟨3, _⟩ => ⟨S512x192, .f32⟩
  | .local .tc .vmem, ⟨4, _⟩ => ⟨S512x192, .f32⟩
  | .local .tc .vmem, ⟨5, _⟩ => ⟨S512x192, .f32⟩
  | .local .tc .vmem, ⟨6, _⟩ => ⟨S512x192, .f32⟩
  | .local .tc .vmem, ⟨7, _⟩ => ⟨S512x192, .f32⟩
  | .local .scVector .vmem, ⟨0, _⟩ => ⟨S64x192, .f32⟩
  | .local .scVector .vmem, ⟨1, _⟩ => ⟨S64x192, .f32⟩
  | .local .scVector .vmem, ⟨2, _⟩ => ⟨S64x96, .f32⟩
  | .local .scVector .vmem, ⟨3, _⟩ => ⟨S64x96, .f32⟩
  | _, _ => ⟨S65536x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v0_0_scv : Ref sig .scVector := ⟨.hbm, 6, rfl⟩
abbrev main_v0_1_scv : Ref sig .scVector := ⟨.hbm, 7, rfl⟩
abbrev main_arg4_scv : Ref sig .scVector := ⟨.hbm, 4, rfl⟩
abbrev main_v1_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg10 : BitVec 32 := Scf.iv c0_i32_0 c1_i32 k1_t1
  let c64_i32 : BitVec 32 := 64#32
  let v4 : BitVec 32 := Scalar.muli arg10 c64_i32
  let v5 : BitVec 32 := Scalar.addi v2 v4
  let c0_i32_7_r0 : BitVec 32 := 0#32
  ![v5.toNat, 0]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg10 : BitVec 32 := Scf.iv c0_i32_0 c1_i32 k1_t1
  let c64_i32 : BitVec 32 := 64#32
  let v4 : BitVec 32 := Scalar.muli arg10 c64_i32
  let v5 : BitVec 32 := Scalar.addi v2 v4
  let c0_i32_7_r2 : BitVec 32 := 0#32
  ![v5.toNat, 0]
@[reducible] def k1_t2_loop : Scf.Loop 32 :=
  let c0_i32_3 : BitVec 32 := 0#32
  let c64_i32_4 : BitVec 32 := 64#32
  let v6 : BitVec 32 := Scalar.addi c0_i32_3 c64_i32_4
  let c1_i32_5 : BitVec 32 := 1#32
  ⟨c0_i32_3, v6, c1_i32_5⟩
def k1_off3 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v8 : Index := Scalar.indexCast arg11
  let c0 : Index := 0#32
  ![v8.toNat, 0]

def k1_chk1 (v7 : IVec S16 32) (v16 : IVec S16 32) : Prop :=
  (∀ a x, ((![v7, v16] : Fin 2 → IVec S16 32) a x).toNat < S64x192.size a)
theorem k1_idx1_inb : ∀ (v7 : IVec S16 32) (v16 : IVec S16 32) (k1_hw1 : k1_chk1 v7 v16), ∀ a x, ((![v7, v16] : Fin 2 → IVec S16 32) a x).toNat < S64x192.size a := fun v7 v16 k1_hw1 => k1_hw1

def k1_chk2 (v7 : IVec S16 32) (v28 : IVec S16 32) : Prop :=
  (∀ a x, ((![v7, v28] : Fin 2 → IVec S16 32) a x).toNat < S64x192.size a)
theorem k1_idx2_inb : ∀ (v7 : IVec S16 32) (v28 : IVec S16 32) (k1_hw2 : k1_chk2 v7 v28), ∀ a x, ((![v7, v28] : Fin 2 → IVec S16 32) a x).toNat < S64x192.size a := fun v7 v28 k1_hw2 => k1_hw2

def k1_chk3 (v7 : IVec S16 32) (v40 : IVec S16 32) : Prop :=
  (∀ a x, ((![v7, v40] : Fin 2 → IVec S16 32) a x).toNat < S64x192.size a)
theorem k1_idx3_inb : ∀ (v7 : IVec S16 32) (v40 : IVec S16 32) (k1_hw3 : k1_chk3 v7 v40), ∀ a x, ((![v7, v40] : Fin 2 → IVec S16 32) a x).toNat < S64x192.size a := fun v7 v40 k1_hw3 => k1_hw3

def k1_chk4 (v7 : IVec S16 32) (v52 : IVec S16 32) : Prop :=
  (∀ a x, ((![v7, v52] : Fin 2 → IVec S16 32) a x).toNat < S64x192.size a)
theorem k1_idx4_inb : ∀ (v7 : IVec S16 32) (v52 : IVec S16 32) (k1_hw4 : k1_chk4 v7 v52), ∀ a x, ((![v7, v52] : Fin 2 → IVec S16 32) a x).toNat < S64x192.size a := fun v7 v52 k1_hw4 => k1_hw4

def k1_chk5 (v7 : IVec S16 32) (v64 : IVec S16 32) : Prop :=
  (∀ a x, ((![v7, v64] : Fin 2 → IVec S16 32) a x).toNat < S64x192.size a)
theorem k1_idx5_inb : ∀ (v7 : IVec S16 32) (v64 : IVec S16 32) (k1_hw5 : k1_chk5 v7 v64), ∀ a x, ((![v7, v64] : Fin 2 → IVec S16 32) a x).toNat < S64x192.size a := fun v7 v64 k1_hw5 => k1_hw5

def k1_chk6 (v7 : IVec S16 32) (v76 : IVec S16 32) : Prop :=
  (∀ a x, ((![v7, v76] : Fin 2 → IVec S16 32) a x).toNat < S64x192.size a)
theorem k1_idx6_inb : ∀ (v7 : IVec S16 32) (v76 : IVec S16 32) (k1_hw6 : k1_chk6 v7 v76), ∀ a x, ((![v7, v76] : Fin 2 → IVec S16 32) a x).toNat < S64x192.size a := fun v7 v76 k1_hw6 => k1_hw6

def k1_chk7 (v7 : IVec S16 32) (v88 : IVec S16 32) : Prop :=
  (∀ a x, ((![v7, v88] : Fin 2 → IVec S16 32) a x).toNat < S64x192.size a)
theorem k1_idx7_inb : ∀ (v7 : IVec S16 32) (v88 : IVec S16 32) (k1_hw7 : k1_chk7 v7 v88), ∀ a x, ((![v7, v88] : Fin 2 → IVec S16 32) a x).toNat < S64x192.size a := fun v7 v88 k1_hw7 => k1_hw7

def k1_chk8 (v7 : IVec S16 32) (v100 : IVec S16 32) : Prop :=
  (∀ a x, ((![v7, v100] : Fin 2 → IVec S16 32) a x).toNat < S64x192.size a)
theorem k1_idx8_inb : ∀ (v7 : IVec S16 32) (v100 : IVec S16 32) (k1_hw8 : k1_chk8 v7 v100), ∀ a x, ((![v7, v100] : Fin 2 → IVec S16 32) a x).toNat < S64x192.size a := fun v7 v100 k1_hw8 => k1_hw8

def k1_chk9 (v7 : IVec S16 32) (v110 : IVec S16 32) : Prop :=
  (∀ a x, ((![v7, v110] : Fin 2 → IVec S16 32) a x).toNat < S64x192.size a) ∧
  (∀ a x, ((![v7, v110] : Fin 2 → IVec S16 32) a x).toNat < S64x192.size a)
theorem k1_idx9_inb : ∀ (v7 : IVec S16 32) (v110 : IVec S16 32) (k1_hw9 : k1_chk9 v7 v110), ∀ a x, ((![v7, v110] : Fin 2 → IVec S16 32) a x).toNat < S64x192.size a := fun v7 v110 k1_hw9 => k1_hw9.1
theorem k1_idx11_inb : ∀ (v7 : IVec S16 32) (v110 : IVec S16 32) (k1_hw9 : k1_chk9 v7 v110), ∀ a x, ((![v7, v110] : Fin 2 → IVec S16 32) a x).toNat < S64x192.size a := fun v7 v110 k1_hw9 => k1_hw9.2

def k1_chk10 (v7 : IVec S16 32) (v112 : IVec S16 32) : Prop :=
  (∀ a x, ((![v7, v112] : Fin 2 → IVec S16 32) a x).toNat < S64x192.size a) ∧
  (∀ a x, ((![v7, v112] : Fin 2 → IVec S16 32) a x).toNat < S64x192.size a)
theorem k1_idx10_inb : ∀ (v7 : IVec S16 32) (v112 : IVec S16 32) (k1_hw10 : k1_chk10 v7 v112), ∀ a x, ((![v7, v112] : Fin 2 → IVec S16 32) a x).toNat < S64x192.size a := fun v7 v112 k1_hw10 => k1_hw10.1
theorem k1_idx12_inb : ∀ (v7 : IVec S16 32) (v112 : IVec S16 32) (k1_hw10 : k1_chk10 v7 v112), ∀ a x, ((![v7, v112] : Fin 2 → IVec S16 32) a x).toNat < S64x192.size a := fun v7 v112 k1_hw10 => k1_hw10.2
def k1_off4 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v127 : Index := Scalar.indexCast arg11
  let c0_38 : Index := 0#32
  ![v127.toNat, 0]
def k1_off5 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v129 : Index := Scalar.indexCast arg11
  let c16 : Index := 16#32
  ![v129.toNat, 16]

def k1_chk11 (v7 : IVec S16 32) (v137 : IVec S16 32) : Prop :=
  (∀ a x, ((![v7, v137] : Fin 2 → IVec S16 32) a x).toNat < S64x192.size a)
theorem k1_idx13_inb : ∀ (v7 : IVec S16 32) (v137 : IVec S16 32) (k1_hw11 : k1_chk11 v7 v137), ∀ a x, ((![v7, v137] : Fin 2 → IVec S16 32) a x).toNat < S64x192.size a := fun v7 v137 k1_hw11 => k1_hw11

def k1_chk12 (v7 : IVec S16 32) (v149 : IVec S16 32) : Prop :=
  (∀ a x, ((![v7, v149] : Fin 2 → IVec S16 32) a x).toNat < S64x192.size a)
theorem k1_idx14_inb : ∀ (v7 : IVec S16 32) (v149 : IVec S16 32) (k1_hw12 : k1_chk12 v7 v149), ∀ a x, ((![v7, v149] : Fin 2 → IVec S16 32) a x).toNat < S64x192.size a := fun v7 v149 k1_hw12 => k1_hw12

def k1_chk13 (v7 : IVec S16 32) (v161 : IVec S16 32) : Prop :=
  (∀ a x, ((![v7, v161] : Fin 2 → IVec S16 32) a x).toNat < S64x192.size a)
theorem k1_idx15_inb : ∀ (v7 : IVec S16 32) (v161 : IVec S16 32) (k1_hw13 : k1_chk13 v7 v161), ∀ a x, ((![v7, v161] : Fin 2 → IVec S16 32) a x).toNat < S64x192.size a := fun v7 v161 k1_hw13 => k1_hw13

def k1_chk14 (v7 : IVec S16 32) (v173 : IVec S16 32) : Prop :=
  (∀ a x, ((![v7, v173] : Fin 2 → IVec S16 32) a x).toNat < S64x192.size a)
theorem k1_idx16_inb : ∀ (v7 : IVec S16 32) (v173 : IVec S16 32) (k1_hw14 : k1_chk14 v7 v173), ∀ a x, ((![v7, v173] : Fin 2 → IVec S16 32) a x).toNat < S64x192.size a := fun v7 v173 k1_hw14 => k1_hw14

def k1_chk15 (v7 : IVec S16 32) (v185 : IVec S16 32) : Prop :=
  (∀ a x, ((![v7, v185] : Fin 2 → IVec S16 32) a x).toNat < S64x192.size a)
theorem k1_idx17_inb : ∀ (v7 : IVec S16 32) (v185 : IVec S16 32) (k1_hw15 : k1_chk15 v7 v185), ∀ a x, ((![v7, v185] : Fin 2 → IVec S16 32) a x).toNat < S64x192.size a := fun v7 v185 k1_hw15 => k1_hw15

def k1_chk16 (v7 : IVec S16 32) (v197 : IVec S16 32) : Prop :=
  (∀ a x, ((![v7, v197] : Fin 2 → IVec S16 32) a x).toNat < S64x192.size a)
theorem k1_idx18_inb : ∀ (v7 : IVec S16 32) (v197 : IVec S16 32) (k1_hw16 : k1_chk16 v7 v197), ∀ a x, ((![v7, v197] : Fin 2 → IVec S16 32) a x).toNat < S64x192.size a := fun v7 v197 k1_hw16 => k1_hw16

def k1_chk17 (v7 : IVec S16 32) (v209 : IVec S16 32) : Prop :=
  (∀ a x, ((![v7, v209] : Fin 2 → IVec S16 32) a x).toNat < S64x192.size a)
theorem k1_idx19_inb : ∀ (v7 : IVec S16 32) (v209 : IVec S16 32) (k1_hw17 : k1_chk17 v7 v209), ∀ a x, ((![v7, v209] : Fin 2 → IVec S16 32) a x).toNat < S64x192.size a := fun v7 v209 k1_hw17 => k1_hw17

def k1_chk18 (v7 : IVec S16 32) (v221 : IVec S16 32) : Prop :=
  (∀ a x, ((![v7, v221] : Fin 2 → IVec S16 32) a x).toNat < S64x192.size a)
theorem k1_idx20_inb : ∀ (v7 : IVec S16 32) (v221 : IVec S16 32) (k1_hw18 : k1_chk18 v7 v221), ∀ a x, ((![v7, v221] : Fin 2 → IVec S16 32) a x).toNat < S64x192.size a := fun v7 v221 k1_hw18 => k1_hw18

def k1_chk19 (v7 : IVec S16 32) (v231 : IVec S16 32) : Prop :=
  (∀ a x, ((![v7, v231] : Fin 2 → IVec S16 32) a x).toNat < S64x192.size a) ∧
  (∀ a x, ((![v7, v231] : Fin 2 → IVec S16 32) a x).toNat < S64x192.size a)
theorem k1_idx21_inb : ∀ (v7 : IVec S16 32) (v231 : IVec S16 32) (k1_hw19 : k1_chk19 v7 v231), ∀ a x, ((![v7, v231] : Fin 2 → IVec S16 32) a x).toNat < S64x192.size a := fun v7 v231 k1_hw19 => k1_hw19.1
theorem k1_idx23_inb : ∀ (v7 : IVec S16 32) (v231 : IVec S16 32) (k1_hw19 : k1_chk19 v7 v231), ∀ a x, ((![v7, v231] : Fin 2 → IVec S16 32) a x).toNat < S64x192.size a := fun v7 v231 k1_hw19 => k1_hw19.2

def k1_chk20 (v7 : IVec S16 32) (v233 : IVec S16 32) : Prop :=
  (∀ a x, ((![v7, v233] : Fin 2 → IVec S16 32) a x).toNat < S64x192.size a) ∧
  (∀ a x, ((![v7, v233] : Fin 2 → IVec S16 32) a x).toNat < S64x192.size a)
theorem k1_idx22_inb : ∀ (v7 : IVec S16 32) (v233 : IVec S16 32) (k1_hw20 : k1_chk20 v7 v233), ∀ a x, ((![v7, v233] : Fin 2 → IVec S16 32) a x).toNat < S64x192.size a := fun v7 v233 k1_hw20 => k1_hw20.1
theorem k1_idx24_inb : ∀ (v7 : IVec S16 32) (v233 : IVec S16 32) (k1_hw20 : k1_chk20 v7 v233), ∀ a x, ((![v7, v233] : Fin 2 → IVec S16 32) a x).toNat < S64x192.size a := fun v7 v233 k1_hw20 => k1_hw20.2
def k1_off6 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v248 : Index := Scalar.indexCast arg11
  let c16_77 : Index := 16#32
  ![v248.toNat, 16]
def k1_off7 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v250 : Index := Scalar.indexCast arg11
  let c32 : Index := 32#32
  ![v250.toNat, 32]

def k1_chk21 (v7 : IVec S16 32) (v258 : IVec S16 32) : Prop :=
  (∀ a x, ((![v7, v258] : Fin 2 → IVec S16 32) a x).toNat < S64x192.size a)
theorem k1_idx25_inb : ∀ (v7 : IVec S16 32) (v258 : IVec S16 32) (k1_hw21 : k1_chk21 v7 v258), ∀ a x, ((![v7, v258] : Fin 2 → IVec S16 32) a x).toNat < S64x192.size a := fun v7 v258 k1_hw21 => k1_hw21

def k1_chk22 (v7 : IVec S16 32) (v270 : IVec S16 32) : Prop :=
  (∀ a x, ((![v7, v270] : Fin 2 → IVec S16 32) a x).toNat < S64x192.size a)
theorem k1_idx26_inb : ∀ (v7 : IVec S16 32) (v270 : IVec S16 32) (k1_hw22 : k1_chk22 v7 v270), ∀ a x, ((![v7, v270] : Fin 2 → IVec S16 32) a x).toNat < S64x192.size a := fun v7 v270 k1_hw22 => k1_hw22

def k1_chk23 (v7 : IVec S16 32) (v282 : IVec S16 32) : Prop :=
  (∀ a x, ((![v7, v282] : Fin 2 → IVec S16 32) a x).toNat < S64x192.size a)
theorem k1_idx27_inb : ∀ (v7 : IVec S16 32) (v282 : IVec S16 32) (k1_hw23 : k1_chk23 v7 v282), ∀ a x, ((![v7, v282] : Fin 2 → IVec S16 32) a x).toNat < S64x192.size a := fun v7 v282 k1_hw23 => k1_hw23

def k1_chk24 (v7 : IVec S16 32) (v294 : IVec S16 32) : Prop :=
  (∀ a x, ((![v7, v294] : Fin 2 → IVec S16 32) a x).toNat < S64x192.size a)
theorem k1_idx28_inb : ∀ (v7 : IVec S16 32) (v294 : IVec S16 32) (k1_hw24 : k1_chk24 v7 v294), ∀ a x, ((![v7, v294] : Fin 2 → IVec S16 32) a x).toNat < S64x192.size a := fun v7 v294 k1_hw24 => k1_hw24

def k1_chk25 (v7 : IVec S16 32) (v306 : IVec S16 32) : Prop :=
  (∀ a x, ((![v7, v306] : Fin 2 → IVec S16 32) a x).toNat < S64x192.size a)
theorem k1_idx29_inb : ∀ (v7 : IVec S16 32) (v306 : IVec S16 32) (k1_hw25 : k1_chk25 v7 v306), ∀ a x, ((![v7, v306] : Fin 2 → IVec S16 32) a x).toNat < S64x192.size a := fun v7 v306 k1_hw25 => k1_hw25

def k1_chk26 (v7 : IVec S16 32) (v318 : IVec S16 32) : Prop :=
  (∀ a x, ((![v7, v318] : Fin 2 → IVec S16 32) a x).toNat < S64x192.size a)
theorem k1_idx30_inb : ∀ (v7 : IVec S16 32) (v318 : IVec S16 32) (k1_hw26 : k1_chk26 v7 v318), ∀ a x, ((![v7, v318] : Fin 2 → IVec S16 32) a x).toNat < S64x192.size a := fun v7 v318 k1_hw26 => k1_hw26

def k1_chk27 (v7 : IVec S16 32) (v330 : IVec S16 32) : Prop :=
  (∀ a x, ((![v7, v330] : Fin 2 → IVec S16 32) a x).toNat < S64x192.size a)
theorem k1_idx31_inb : ∀ (v7 : IVec S16 32) (v330 : IVec S16 32) (k1_hw27 : k1_chk27 v7 v330), ∀ a x, ((![v7, v330] : Fin 2 → IVec S16 32) a x).toNat < S64x192.size a := fun v7 v330 k1_hw27 => k1_hw27

def k1_chk28 (v7 : IVec S16 32) (v342 : IVec S16 32) : Prop :=
  (∀ a x, ((![v7, v342] : Fin 2 → IVec S16 32) a x).toNat < S64x192.size a)
theorem k1_idx32_inb : ∀ (v7 : IVec S16 32) (v342 : IVec S16 32) (k1_hw28 : k1_chk28 v7 v342), ∀ a x, ((![v7, v342] : Fin 2 → IVec S16 32) a x).toNat < S64x192.size a := fun v7 v342 k1_hw28 => k1_hw28

def k1_chk29 (v7 : IVec S16 32) (v352 : IVec S16 32) : Prop :=
  (∀ a x, ((![v7, v352] : Fin 2 → IVec S16 32) a x).toNat < S64x192.size a) ∧
  (∀ a x, ((![v7, v352] : Fin 2 → IVec S16 32) a x).toNat < S64x192.size a)
theorem k1_idx33_inb : ∀ (v7 : IVec S16 32) (v352 : IVec S16 32) (k1_hw29 : k1_chk29 v7 v352), ∀ a x, ((![v7, v352] : Fin 2 → IVec S16 32) a x).toNat < S64x192.size a := fun v7 v352 k1_hw29 => k1_hw29.1
theorem k1_idx35_inb : ∀ (v7 : IVec S16 32) (v352 : IVec S16 32) (k1_hw29 : k1_chk29 v7 v352), ∀ a x, ((![v7, v352] : Fin 2 → IVec S16 32) a x).toNat < S64x192.size a := fun v7 v352 k1_hw29 => k1_hw29.2

def k1_chk30 (v7 : IVec S16 32) (v354 : IVec S16 32) : Prop :=
  (∀ a x, ((![v7, v354] : Fin 2 → IVec S16 32) a x).toNat < S64x192.size a) ∧
  (∀ a x, ((![v7, v354] : Fin 2 → IVec S16 32) a x).toNat < S64x192.size a)
theorem k1_idx34_inb : ∀ (v7 : IVec S16 32) (v354 : IVec S16 32) (k1_hw30 : k1_chk30 v7 v354), ∀ a x, ((![v7, v354] : Fin 2 → IVec S16 32) a x).toNat < S64x192.size a := fun v7 v354 k1_hw30 => k1_hw30.1
theorem k1_idx36_inb : ∀ (v7 : IVec S16 32) (v354 : IVec S16 32) (k1_hw30 : k1_chk30 v7 v354), ∀ a x, ((![v7, v354] : Fin 2 → IVec S16 32) a x).toNat < S64x192.size a := fun v7 v354 k1_hw30 => k1_hw30.2
def k1_off8 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v369 : Index := Scalar.indexCast arg11
  let c32_116 : Index := 32#32
  ![v369.toNat, 32]
def k1_off9 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v371 : Index := Scalar.indexCast arg11
  let c48 : Index := 48#32
  ![v371.toNat, 48]

def k1_chk31 (v7 : IVec S16 32) (v379 : IVec S16 32) : Prop :=
  (∀ a x, ((![v7, v379] : Fin 2 → IVec S16 32) a x).toNat < S64x192.size a)
theorem k1_idx37_inb : ∀ (v7 : IVec S16 32) (v379 : IVec S16 32) (k1_hw31 : k1_chk31 v7 v379), ∀ a x, ((![v7, v379] : Fin 2 → IVec S16 32) a x).toNat < S64x192.size a := fun v7 v379 k1_hw31 => k1_hw31

def k1_chk32 (v7 : IVec S16 32) (v391 : IVec S16 32) : Prop :=
  (∀ a x, ((![v7, v391] : Fin 2 → IVec S16 32) a x).toNat < S64x192.size a)
theorem k1_idx38_inb : ∀ (v7 : IVec S16 32) (v391 : IVec S16 32) (k1_hw32 : k1_chk32 v7 v391), ∀ a x, ((![v7, v391] : Fin 2 → IVec S16 32) a x).toNat < S64x192.size a := fun v7 v391 k1_hw32 => k1_hw32

def k1_chk33 (v7 : IVec S16 32) (v403 : IVec S16 32) : Prop :=
  (∀ a x, ((![v7, v403] : Fin 2 → IVec S16 32) a x).toNat < S64x192.size a)
theorem k1_idx39_inb : ∀ (v7 : IVec S16 32) (v403 : IVec S16 32) (k1_hw33 : k1_chk33 v7 v403), ∀ a x, ((![v7, v403] : Fin 2 → IVec S16 32) a x).toNat < S64x192.size a := fun v7 v403 k1_hw33 => k1_hw33

def k1_chk34 (v7 : IVec S16 32) (v415 : IVec S16 32) : Prop :=
  (∀ a x, ((![v7, v415] : Fin 2 → IVec S16 32) a x).toNat < S64x192.size a)
theorem k1_idx40_inb : ∀ (v7 : IVec S16 32) (v415 : IVec S16 32) (k1_hw34 : k1_chk34 v7 v415), ∀ a x, ((![v7, v415] : Fin 2 → IVec S16 32) a x).toNat < S64x192.size a := fun v7 v415 k1_hw34 => k1_hw34

def k1_chk35 (v7 : IVec S16 32) (v427 : IVec S16 32) : Prop :=
  (∀ a x, ((![v7, v427] : Fin 2 → IVec S16 32) a x).toNat < S64x192.size a)
theorem k1_idx41_inb : ∀ (v7 : IVec S16 32) (v427 : IVec S16 32) (k1_hw35 : k1_chk35 v7 v427), ∀ a x, ((![v7, v427] : Fin 2 → IVec S16 32) a x).toNat < S64x192.size a := fun v7 v427 k1_hw35 => k1_hw35

def k1_chk36 (v7 : IVec S16 32) (v439 : IVec S16 32) : Prop :=
  (∀ a x, ((![v7, v439] : Fin 2 → IVec S16 32) a x).toNat < S64x192.size a)
theorem k1_idx42_inb : ∀ (v7 : IVec S16 32) (v439 : IVec S16 32) (k1_hw36 : k1_chk36 v7 v439), ∀ a x, ((![v7, v439] : Fin 2 → IVec S16 32) a x).toNat < S64x192.size a := fun v7 v439 k1_hw36 => k1_hw36

def k1_chk37 (v7 : IVec S16 32) (v451 : IVec S16 32) : Prop :=
  (∀ a x, ((![v7, v451] : Fin 2 → IVec S16 32) a x).toNat < S64x192.size a)
theorem k1_idx43_inb : ∀ (v7 : IVec S16 32) (v451 : IVec S16 32) (k1_hw37 : k1_chk37 v7 v451), ∀ a x, ((![v7, v451] : Fin 2 → IVec S16 32) a x).toNat < S64x192.size a := fun v7 v451 k1_hw37 => k1_hw37

def k1_chk38 (v7 : IVec S16 32) (v463 : IVec S16 32) : Prop :=
  (∀ a x, ((![v7, v463] : Fin 2 → IVec S16 32) a x).toNat < S64x192.size a)
theorem k1_idx44_inb : ∀ (v7 : IVec S16 32) (v463 : IVec S16 32) (k1_hw38 : k1_chk38 v7 v463), ∀ a x, ((![v7, v463] : Fin 2 → IVec S16 32) a x).toNat < S64x192.size a := fun v7 v463 k1_hw38 => k1_hw38

def k1_chk39 (v7 : IVec S16 32) (v473 : IVec S16 32) : Prop :=
  (∀ a x, ((![v7, v473] : Fin 2 → IVec S16 32) a x).toNat < S64x192.size a) ∧
  (∀ a x, ((![v7, v473] : Fin 2 → IVec S16 32) a x).toNat < S64x192.size a)
theorem k1_idx45_inb : ∀ (v7 : IVec S16 32) (v473 : IVec S16 32) (k1_hw39 : k1_chk39 v7 v473), ∀ a x, ((![v7, v473] : Fin 2 → IVec S16 32) a x).toNat < S64x192.size a := fun v7 v473 k1_hw39 => k1_hw39.1
theorem k1_idx47_inb : ∀ (v7 : IVec S16 32) (v473 : IVec S16 32) (k1_hw39 : k1_chk39 v7 v473), ∀ a x, ((![v7, v473] : Fin 2 → IVec S16 32) a x).toNat < S64x192.size a := fun v7 v473 k1_hw39 => k1_hw39.2

def k1_chk40 (v7 : IVec S16 32) (v475 : IVec S16 32) : Prop :=
  (∀ a x, ((![v7, v475] : Fin 2 → IVec S16 32) a x).toNat < S64x192.size a) ∧
  (∀ a x, ((![v7, v475] : Fin 2 → IVec S16 32) a x).toNat < S64x192.size a)
theorem k1_idx46_inb : ∀ (v7 : IVec S16 32) (v475 : IVec S16 32) (k1_hw40 : k1_chk40 v7 v475), ∀ a x, ((![v7, v475] : Fin 2 → IVec S16 32) a x).toNat < S64x192.size a := fun v7 v475 k1_hw40 => k1_hw40.1
theorem k1_idx48_inb : ∀ (v7 : IVec S16 32) (v475 : IVec S16 32) (k1_hw40 : k1_chk40 v7 v475), ∀ a x, ((![v7, v475] : Fin 2 → IVec S16 32) a x).toNat < S64x192.size a := fun v7 v475 k1_hw40 => k1_hw40.2
def k1_off10 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v490 : Index := Scalar.indexCast arg11
  let c48_155 : Index := 48#32
  ![v490.toNat, 48]
def k1_off11 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v492 : Index := Scalar.indexCast arg11
  let c64 : Index := 64#32
  ![v492.toNat, 64]

def k1_chk41 (v7 : IVec S16 32) (v500 : IVec S16 32) : Prop :=
  (∀ a x, ((![v7, v500] : Fin 2 → IVec S16 32) a x).toNat < S64x192.size a)
theorem k1_idx49_inb : ∀ (v7 : IVec S16 32) (v500 : IVec S16 32) (k1_hw41 : k1_chk41 v7 v500), ∀ a x, ((![v7, v500] : Fin 2 → IVec S16 32) a x).toNat < S64x192.size a := fun v7 v500 k1_hw41 => k1_hw41

def k1_chk42 (v7 : IVec S16 32) (v512 : IVec S16 32) : Prop :=
  (∀ a x, ((![v7, v512] : Fin 2 → IVec S16 32) a x).toNat < S64x192.size a)
theorem k1_idx50_inb : ∀ (v7 : IVec S16 32) (v512 : IVec S16 32) (k1_hw42 : k1_chk42 v7 v512), ∀ a x, ((![v7, v512] : Fin 2 → IVec S16 32) a x).toNat < S64x192.size a := fun v7 v512 k1_hw42 => k1_hw42

def k1_chk43 (v7 : IVec S16 32) (v524 : IVec S16 32) : Prop :=
  (∀ a x, ((![v7, v524] : Fin 2 → IVec S16 32) a x).toNat < S64x192.size a)
theorem k1_idx51_inb : ∀ (v7 : IVec S16 32) (v524 : IVec S16 32) (k1_hw43 : k1_chk43 v7 v524), ∀ a x, ((![v7, v524] : Fin 2 → IVec S16 32) a x).toNat < S64x192.size a := fun v7 v524 k1_hw43 => k1_hw43

def k1_chk44 (v7 : IVec S16 32) (v536 : IVec S16 32) : Prop :=
  (∀ a x, ((![v7, v536] : Fin 2 → IVec S16 32) a x).toNat < S64x192.size a)
theorem k1_idx52_inb : ∀ (v7 : IVec S16 32) (v536 : IVec S16 32) (k1_hw44 : k1_chk44 v7 v536), ∀ a x, ((![v7, v536] : Fin 2 → IVec S16 32) a x).toNat < S64x192.size a := fun v7 v536 k1_hw44 => k1_hw44

def k1_chk45 (v7 : IVec S16 32) (v548 : IVec S16 32) : Prop :=
  (∀ a x, ((![v7, v548] : Fin 2 → IVec S16 32) a x).toNat < S64x192.size a)
theorem k1_idx53_inb : ∀ (v7 : IVec S16 32) (v548 : IVec S16 32) (k1_hw45 : k1_chk45 v7 v548), ∀ a x, ((![v7, v548] : Fin 2 → IVec S16 32) a x).toNat < S64x192.size a := fun v7 v548 k1_hw45 => k1_hw45

def k1_chk46 (v7 : IVec S16 32) (v560 : IVec S16 32) : Prop :=
  (∀ a x, ((![v7, v560] : Fin 2 → IVec S16 32) a x).toNat < S64x192.size a)
theorem k1_idx54_inb : ∀ (v7 : IVec S16 32) (v560 : IVec S16 32) (k1_hw46 : k1_chk46 v7 v560), ∀ a x, ((![v7, v560] : Fin 2 → IVec S16 32) a x).toNat < S64x192.size a := fun v7 v560 k1_hw46 => k1_hw46

def k1_chk47 (v7 : IVec S16 32) (v572 : IVec S16 32) : Prop :=
  (∀ a x, ((![v7, v572] : Fin 2 → IVec S16 32) a x).toNat < S64x192.size a)
theorem k1_idx55_inb : ∀ (v7 : IVec S16 32) (v572 : IVec S16 32) (k1_hw47 : k1_chk47 v7 v572), ∀ a x, ((![v7, v572] : Fin 2 → IVec S16 32) a x).toNat < S64x192.size a := fun v7 v572 k1_hw47 => k1_hw47

def k1_chk48 (v7 : IVec S16 32) (v584 : IVec S16 32) : Prop :=
  (∀ a x, ((![v7, v584] : Fin 2 → IVec S16 32) a x).toNat < S64x192.size a)
theorem k1_idx56_inb : ∀ (v7 : IVec S16 32) (v584 : IVec S16 32) (k1_hw48 : k1_chk48 v7 v584), ∀ a x, ((![v7, v584] : Fin 2 → IVec S16 32) a x).toNat < S64x192.size a := fun v7 v584 k1_hw48 => k1_hw48

def k1_chk49 (v7 : IVec S16 32) (v594 : IVec S16 32) : Prop :=
  (∀ a x, ((![v7, v594] : Fin 2 → IVec S16 32) a x).toNat < S64x192.size a) ∧
  (∀ a x, ((![v7, v594] : Fin 2 → IVec S16 32) a x).toNat < S64x192.size a)
theorem k1_idx57_inb : ∀ (v7 : IVec S16 32) (v594 : IVec S16 32) (k1_hw49 : k1_chk49 v7 v594), ∀ a x, ((![v7, v594] : Fin 2 → IVec S16 32) a x).toNat < S64x192.size a := fun v7 v594 k1_hw49 => k1_hw49.1
theorem k1_idx59_inb : ∀ (v7 : IVec S16 32) (v594 : IVec S16 32) (k1_hw49 : k1_chk49 v7 v594), ∀ a x, ((![v7, v594] : Fin 2 → IVec S16 32) a x).toNat < S64x192.size a := fun v7 v594 k1_hw49 => k1_hw49.2

def k1_chk50 (v7 : IVec S16 32) (v596 : IVec S16 32) : Prop :=
  (∀ a x, ((![v7, v596] : Fin 2 → IVec S16 32) a x).toNat < S64x192.size a) ∧
  (∀ a x, ((![v7, v596] : Fin 2 → IVec S16 32) a x).toNat < S64x192.size a)
theorem k1_idx58_inb : ∀ (v7 : IVec S16 32) (v596 : IVec S16 32) (k1_hw50 : k1_chk50 v7 v596), ∀ a x, ((![v7, v596] : Fin 2 → IVec S16 32) a x).toNat < S64x192.size a := fun v7 v596 k1_hw50 => k1_hw50.1
theorem k1_idx60_inb : ∀ (v7 : IVec S16 32) (v596 : IVec S16 32) (k1_hw50 : k1_chk50 v7 v596), ∀ a x, ((![v7, v596] : Fin 2 → IVec S16 32) a x).toNat < S64x192.size a := fun v7 v596 k1_hw50 => k1_hw50.2
def k1_off12 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v611 : Index := Scalar.indexCast arg11
  let c64_194 : Index := 64#32
  ![v611.toNat, 64]
def k1_off13 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v613 : Index := Scalar.indexCast arg11
  let c80 : Index := 80#32
  ![v613.toNat, 80]

def k1_chk51 (v7 : IVec S16 32) (v621 : IVec S16 32) : Prop :=
  (∀ a x, ((![v7, v621] : Fin 2 → IVec S16 32) a x).toNat < S64x192.size a)
theorem k1_idx61_inb : ∀ (v7 : IVec S16 32) (v621 : IVec S16 32) (k1_hw51 : k1_chk51 v7 v621), ∀ a x, ((![v7, v621] : Fin 2 → IVec S16 32) a x).toNat < S64x192.size a := fun v7 v621 k1_hw51 => k1_hw51

def k1_chk52 (v7 : IVec S16 32) (v633 : IVec S16 32) : Prop :=
  (∀ a x, ((![v7, v633] : Fin 2 → IVec S16 32) a x).toNat < S64x192.size a)
theorem k1_idx62_inb : ∀ (v7 : IVec S16 32) (v633 : IVec S16 32) (k1_hw52 : k1_chk52 v7 v633), ∀ a x, ((![v7, v633] : Fin 2 → IVec S16 32) a x).toNat < S64x192.size a := fun v7 v633 k1_hw52 => k1_hw52

def k1_chk53 (v7 : IVec S16 32) (v645 : IVec S16 32) : Prop :=
  (∀ a x, ((![v7, v645] : Fin 2 → IVec S16 32) a x).toNat < S64x192.size a)
theorem k1_idx63_inb : ∀ (v7 : IVec S16 32) (v645 : IVec S16 32) (k1_hw53 : k1_chk53 v7 v645), ∀ a x, ((![v7, v645] : Fin 2 → IVec S16 32) a x).toNat < S64x192.size a := fun v7 v645 k1_hw53 => k1_hw53

def k1_chk54 (v7 : IVec S16 32) (v657 : IVec S16 32) : Prop :=
  (∀ a x, ((![v7, v657] : Fin 2 → IVec S16 32) a x).toNat < S64x192.size a)
theorem k1_idx64_inb : ∀ (v7 : IVec S16 32) (v657 : IVec S16 32) (k1_hw54 : k1_chk54 v7 v657), ∀ a x, ((![v7, v657] : Fin 2 → IVec S16 32) a x).toNat < S64x192.size a := fun v7 v657 k1_hw54 => k1_hw54

def k1_chk55 (v7 : IVec S16 32) (v669 : IVec S16 32) : Prop :=
  (∀ a x, ((![v7, v669] : Fin 2 → IVec S16 32) a x).toNat < S64x192.size a)
theorem k1_idx65_inb : ∀ (v7 : IVec S16 32) (v669 : IVec S16 32) (k1_hw55 : k1_chk55 v7 v669), ∀ a x, ((![v7, v669] : Fin 2 → IVec S16 32) a x).toNat < S64x192.size a := fun v7 v669 k1_hw55 => k1_hw55

def k1_chk56 (v7 : IVec S16 32) (v681 : IVec S16 32) : Prop :=
  (∀ a x, ((![v7, v681] : Fin 2 → IVec S16 32) a x).toNat < S64x192.size a)
theorem k1_idx66_inb : ∀ (v7 : IVec S16 32) (v681 : IVec S16 32) (k1_hw56 : k1_chk56 v7 v681), ∀ a x, ((![v7, v681] : Fin 2 → IVec S16 32) a x).toNat < S64x192.size a := fun v7 v681 k1_hw56 => k1_hw56

def k1_chk57 (v7 : IVec S16 32) (v693 : IVec S16 32) : Prop :=
  (∀ a x, ((![v7, v693] : Fin 2 → IVec S16 32) a x).toNat < S64x192.size a)
theorem k1_idx67_inb : ∀ (v7 : IVec S16 32) (v693 : IVec S16 32) (k1_hw57 : k1_chk57 v7 v693), ∀ a x, ((![v7, v693] : Fin 2 → IVec S16 32) a x).toNat < S64x192.size a := fun v7 v693 k1_hw57 => k1_hw57

def k1_chk58 (v7 : IVec S16 32) (v705 : IVec S16 32) : Prop :=
  (∀ a x, ((![v7, v705] : Fin 2 → IVec S16 32) a x).toNat < S64x192.size a)
theorem k1_idx68_inb : ∀ (v7 : IVec S16 32) (v705 : IVec S16 32) (k1_hw58 : k1_chk58 v7 v705), ∀ a x, ((![v7, v705] : Fin 2 → IVec S16 32) a x).toNat < S64x192.size a := fun v7 v705 k1_hw58 => k1_hw58

def k1_chk59 (v7 : IVec S16 32) (v715 : IVec S16 32) : Prop :=
  (∀ a x, ((![v7, v715] : Fin 2 → IVec S16 32) a x).toNat < S64x192.size a) ∧
  (∀ a x, ((![v7, v715] : Fin 2 → IVec S16 32) a x).toNat < S64x192.size a)
theorem k1_idx69_inb : ∀ (v7 : IVec S16 32) (v715 : IVec S16 32) (k1_hw59 : k1_chk59 v7 v715), ∀ a x, ((![v7, v715] : Fin 2 → IVec S16 32) a x).toNat < S64x192.size a := fun v7 v715 k1_hw59 => k1_hw59.1
theorem k1_idx71_inb : ∀ (v7 : IVec S16 32) (v715 : IVec S16 32) (k1_hw59 : k1_chk59 v7 v715), ∀ a x, ((![v7, v715] : Fin 2 → IVec S16 32) a x).toNat < S64x192.size a := fun v7 v715 k1_hw59 => k1_hw59.2

def k1_chk60 (v7 : IVec S16 32) (v717 : IVec S16 32) : Prop :=
  (∀ a x, ((![v7, v717] : Fin 2 → IVec S16 32) a x).toNat < S64x192.size a) ∧
  (∀ a x, ((![v7, v717] : Fin 2 → IVec S16 32) a x).toNat < S64x192.size a)
theorem k1_idx70_inb : ∀ (v7 : IVec S16 32) (v717 : IVec S16 32) (k1_hw60 : k1_chk60 v7 v717), ∀ a x, ((![v7, v717] : Fin 2 → IVec S16 32) a x).toNat < S64x192.size a := fun v7 v717 k1_hw60 => k1_hw60.1
theorem k1_idx72_inb : ∀ (v7 : IVec S16 32) (v717 : IVec S16 32) (k1_hw60 : k1_chk60 v7 v717), ∀ a x, ((![v7, v717] : Fin 2 → IVec S16 32) a x).toNat < S64x192.size a := fun v7 v717 k1_hw60 => k1_hw60.2
def k1_off14 (k1_t2 : Fin k1_t2_loop.trips) : Fin 2 → Nat :=
  let c0_i32_3 : BitVec 32 := 0#32
  let c1_i32_5 : BitVec 32 := 1#32
  let arg11 : BitVec 32 := Scf.iv c0_i32_3 c1_i32_5 k1_t2
  let v732 : Index := Scalar.indexCast arg11
  let c80_233 : Index := 80#32
  ![v732.toNat, 80]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x3 : Shape := ⟨2, ![65536, 3]⟩
abbrev S65536x192 : Shape := ⟨2, ![65536, 192]⟩
abbrev S65536x96 : Shape := ⟨2, ![65536, 96]⟩
abbrev S_ : Shape := ⟨0, ![]⟩
abbrev S65536x191 : Shape := ⟨2, ![65536, 191]⟩
abbrev S65536x190 : Shape := ⟨2, ![65536, 190]⟩
abbrev S65536 : Shape := ⟨1, ![65536]⟩
abbrev S65536x1 : Shape := ⟨2, ![65536, 1]⟩
abbrev S65536x1x191 : Shape := ⟨3, ![65536, 1, 191]⟩
abbrev S65536x96x1 : Shape := ⟨3, ![65536, 96, 1]⟩
abbrev S65536x96x191 : Shape := ⟨3, ![65536, 96, 191]⟩
abbrev S1 : Shape := ⟨1, ![1]⟩
abbrev S1x1x1 : Shape := ⟨3, ![1, 1, 1]⟩

abbrev nBuf : Space → Nat
  | .hbm => 155
  | .vmem => 0
  | .smem => 0
  | _ => 0

abbrev hbmTy0_0 (i : Nat) : BufTy := match i % 128 with
  | 0 => ⟨S65536x3, .f32⟩
  | 1 => ⟨S65536x3, .f32⟩
  | 2 => ⟨S65536x192, .f32⟩
  | 3 => ⟨S65536x192, .f32⟩
  | 4 => ⟨S65536x96, .f32⟩
  | 5 => ⟨S_, .i32⟩
  | 6 => ⟨S65536x191, .f32⟩
  | 7 => ⟨S65536x191, .f32⟩
  | 8 => ⟨S65536x191, .f32⟩
  | 9 => ⟨S_, .f32⟩
  | 10 => ⟨S65536x191, .f32⟩
  | 11 => ⟨S65536x191, .f32⟩
  | 12 => ⟨S65536x190, .f32⟩
  | 13 => ⟨S_, .f32⟩
  | 14 => ⟨S65536x190, .f32⟩
  | 15 => ⟨S65536x190, .f32⟩
  | 16 => ⟨S_, .f32⟩
  | 17 => ⟨S65536, .f32⟩
  | 18 => ⟨S65536x1, .f32⟩
  | 19 => ⟨S65536x190, .f32⟩
  | 20 => ⟨S65536x190, .f32⟩
  | 21 => ⟨S_, .f32⟩
  | 22 => ⟨S_, .f32⟩
  | 23 => ⟨S65536x190, .f32⟩
  | 24 => ⟨S65536x1, .f32⟩
  | 25 => ⟨S_, .f32⟩
  | 26 => ⟨S65536x1, .f32⟩
  | 27 => ⟨S65536x191, .f32⟩
  | 28 => ⟨S65536x1x191, .f32⟩
  | 29 => ⟨S65536x96x1, .f32⟩
  | 30 => ⟨S65536x96x191, .f32⟩
  | 31 => ⟨S65536x96x191, .f32⟩
  | 32 => ⟨S65536x96x191, .i1⟩
  | 33 => ⟨S65536x96x191, .i32⟩
  | 34 => ⟨S_, .i32⟩
  | 35 => ⟨S65536x96, .i32⟩
  | 36 => ⟨S_, .i32⟩
  | 37 => ⟨S65536x96, .i32⟩
  | 38 => ⟨S65536x96, .i32⟩
  | 39 => ⟨S_, .i32⟩
  | 40 => ⟨S_, .i32⟩
  | 41 => ⟨S_, .i32⟩
  | 42 => ⟨S65536x96, .i32⟩
  | 43 => ⟨S65536x96, .i32⟩
  | 44 => ⟨S_, .i32⟩
  | 45 => ⟨S65536x96, .i32⟩
  | 46 => ⟨S65536x96, .i32⟩
  | 47 => ⟨S_, .i32⟩
  | 48 => ⟨S_, .i32⟩
  | 49 => ⟨S_, .i32⟩
  | 50 => ⟨S65536x96, .i32⟩
  | 51 => ⟨S65536x96, .i32⟩
  | 52 => ⟨S_, .i32⟩
  | 53 => ⟨S65536x96, .i32⟩
  | 54 => ⟨S65536x96, .i32⟩
  | 55 => ⟨S_, .i32⟩
  | 56 => ⟨S65536x96, .i32⟩
  | 57 => ⟨S65536x96, .i1⟩
  | 58 => ⟨S_, .i32⟩
  | 59 => ⟨S65536x96, .i32⟩
  | 60 => ⟨S65536x96, .i32⟩
  | 61 => ⟨S65536x96, .i32⟩
  | 62 => ⟨S65536x96x1, .i32⟩
  | 63 => ⟨S1, .i32⟩
  | 64 => ⟨S_, .i32⟩
  | 65 => ⟨S65536x96x1, .i32⟩
  | 66 => ⟨S65536x96x1, .i1⟩
  | 67 => ⟨S1x1x1, .i32⟩
  | 68 => ⟨S65536x96x1, .i32⟩
  | 69 => ⟨S65536x96x1, .i1⟩
  | 70 => ⟨S65536x96x1, .i1⟩
  | 71 => ⟨S_, .i1⟩
  | 72 => ⟨S65536x96, .i1⟩
  | 73 => ⟨S65536x96, .f32⟩
  | 74 => ⟨S_, .f32⟩
  | 75 => ⟨S65536x96, .f32⟩
  | 76 => ⟨S65536x96, .f32⟩
  | 77 => ⟨S_, .i32⟩
  | 78 => ⟨S65536x96, .i32⟩
  | 79 => ⟨S65536x96, .i1⟩
  | 80 => ⟨S_, .i32⟩
  | 81 => ⟨S65536x96, .i32⟩
  | 82 => ⟨S65536x96, .i32⟩
  | 83 => ⟨S65536x96, .i32⟩
  | 84 => ⟨S65536x96x1, .i32⟩
  | 85 => ⟨S1, .i32⟩
  | 86 => ⟨S_, .i32⟩
  | 87 => ⟨S65536x96x1, .i32⟩
  | 88 => ⟨S65536x96x1, .i1⟩
  | 89 => ⟨S1x1x1, .i32⟩
  | 90 => ⟨S65536x96x1, .i32⟩
  | 91 => ⟨S65536x96x1, .i1⟩
  | 92 => ⟨S65536x96x1, .i1⟩
  | 93 => ⟨S_, .i1⟩
  | 94 => ⟨S65536x96, .i1⟩
  | 95 => ⟨S65536x96, .f32⟩
  | 96 => ⟨S_, .f32⟩
  | 97 => ⟨S65536x96, .f32⟩
  | 98 => ⟨S65536x96, .f32⟩
  | 99 => ⟨S_, .i32⟩
  | 100 => ⟨S65536x96, .i32⟩
  | 101 => ⟨S65536x96, .i1⟩
  | 102 => ⟨S_, .i32⟩
  | 103 => ⟨S65536x96, .i32⟩
  | 104 => ⟨S65536x96, .i32⟩
  | 105 => ⟨S65536x96, .i32⟩
  | 106 => ⟨S65536x96x1, .i32⟩
  | 107 => ⟨S1, .i32⟩
  | 108 => ⟨S_, .i32⟩
  | 109 => ⟨S65536x96x1, .i32⟩
  | 110 => ⟨S65536x96x1, .i1⟩
  | 111 => ⟨S1x1x1, .i32⟩
  | 112 => ⟨S65536x96x1, .i32⟩
  | 113 => ⟨S65536x96x1, .i1⟩
  | 114 => ⟨S65536x96x1, .i1⟩
  | 115 => ⟨S_, .i1⟩
  | 116 => ⟨S65536x96, .i1⟩
  | 117 => ⟨S65536x96, .f32⟩
  | 118 => ⟨S_, .f32⟩
  | 119 => ⟨S65536x96, .f32⟩
  | 120 => ⟨S65536x96, .f32⟩
  | 121 => ⟨S_, .i32⟩
  | 122 => ⟨S65536x96, .i32⟩
  | 123 => ⟨S65536x96, .i1⟩
  | 124 => ⟨S_, .i32⟩
  | 125 => ⟨S65536x96, .i32⟩
  | 126 => ⟨S65536x96, .i32⟩
  | 127 => ⟨S65536x96, .i32⟩
  | _ => ⟨S65536x3, .f32⟩

abbrev hbmTy0_1 (i : Nat) : BufTy := match i % 128 with
  | 0 => ⟨S65536x96x1, .i32⟩
  | 1 => ⟨S1, .i32⟩
  | 2 => ⟨S_, .i32⟩
  | 3 => ⟨S65536x96x1, .i32⟩
  | 4 => ⟨S65536x96x1, .i1⟩
  | 5 => ⟨S1x1x1, .i32⟩
  | 6 => ⟨S65536x96x1, .i32⟩
  | 7 => ⟨S65536x96x1, .i1⟩
  | 8 => ⟨S65536x96x1, .i1⟩
  | 9 => ⟨S_, .i1⟩
  | 10 => ⟨S65536x96, .i1⟩
  | 11 => ⟨S65536x96, .f32⟩
  | 12 => ⟨S_, .f32⟩
  | 13 => ⟨S65536x96, .f32⟩
  | 14 => ⟨S65536x96, .f32⟩
  | 15 => ⟨S65536x96, .f32⟩
  | 16 => ⟨S_, .f32⟩
  | 17 => ⟨S65536x96, .f32⟩
  | 18 => ⟨S65536x96, .i1⟩
  | 19 => ⟨S_, .f32⟩
  | 20 => ⟨S65536x96, .f32⟩
  | 21 => ⟨S65536x96, .f32⟩
  | 22 => ⟨S65536x96, .f32⟩
  | 23 => ⟨S65536x96, .f32⟩
  | 24 => ⟨S65536x96, .f32⟩
  | 25 => ⟨S65536x96, .f32⟩
  | 26 => ⟨S65536x96, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_call0_cst : Ref sig .tc := ⟨.hbm, 21, rfl⟩
abbrev main_call0_call0_v0 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_c_6 : Ref sig .tc := ⟨.hbm, 47, rfl⟩
abbrev main_c_7 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v26 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v27 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_cst : Ref sig .tc := ⟨.hbm, 96, rfl⟩
abbrev main_call4_v14 : Ref sig .tc := ⟨.hbm, 97, rfl⟩
abbrev main_v28 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_c_1 : Ref sig .tc := ⟨.hbm, 107, rfl⟩
abbrev main_call5_c_2 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_3 : Ref sig .tc := ⟨.hbm, 115, rfl⟩
abbrev main_call5_v12 : Ref sig .tc := ⟨.hbm, 116, rfl⟩
abbrev main_call5_v13 : Ref sig .tc := ⟨.hbm, 117, rfl⟩
abbrev main_call5_cst : Ref sig .tc := ⟨.hbm, 118, rfl⟩
abbrev main_call5_v14 : Ref sig .tc := ⟨.hbm, 119, rfl⟩
abbrev main_v29 : Ref sig .tc := ⟨.hbm, 120, rfl⟩
abbrev main_call6_c : Ref sig .tc := ⟨.hbm, 121, rfl⟩
abbrev main_call6_v0 : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_v5 : Ref sig .tc := ⟨.hbm, 128, rfl⟩
abbrev main_call6_c_1 : Ref sig .tc := ⟨.hbm, 129, rfl⟩
abbrev main_call6_c_2 : Ref sig .tc := ⟨.hbm, 130, rfl⟩
abbrev main_call6_v6 : Ref sig .tc := ⟨.hbm, 131, rfl⟩
abbrev main_call6_v7 : Ref sig .tc := ⟨.hbm, 132, rfl⟩
abbrev main_call6_v8 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_c_3 : Ref sig .tc := ⟨.hbm, 137, rfl⟩
abbrev main_call6_v12 : Ref sig .tc := ⟨.hbm, 138, rfl⟩
abbrev main_call6_v13 : Ref sig .tc := ⟨.hbm, 139, rfl⟩
abbrev main_call6_cst : Ref sig .tc := ⟨.hbm, 140, rfl⟩
abbrev main_call6_v14 : Ref sig .tc := ⟨.hbm, 141, rfl⟩
abbrev main_v30 : Ref sig .tc := ⟨.hbm, 142, rfl⟩
abbrev main_v31 : Ref sig .tc := ⟨.hbm, 143, rfl⟩
abbrev main_cst_8 : Ref sig .tc := ⟨.hbm, 144, rfl⟩
abbrev main_v32 : Ref sig .tc := ⟨.hbm, 145, rfl⟩
abbrev main_v33 : Ref sig .tc := ⟨.hbm, 146, rfl⟩
abbrev main_cst_9 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩

abbrev nD : Nat := 1
abbrev τ : Topo := Topo.v7x

variable {F : FTy → Type} [FloatOps F]
-- ==== Proof.Block.lean ====
/-
  One block of sixteen rays of the vector subcore's inner loop, written once: the eight steps of the binary search, the
  two gathers of each of the two scratch arrays at the interval found, the linear interpolation, and the store of the
  sixteen results. The loop's body is six of them side by side (`t2_body_eq`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ray

open Cert.KernelIdeal Cert.KernelIdeal.Gen
open Idealize.ShloMosaic Idealize.SL.Sem

variable {F : FTy → Type} [FloatOps F]

/-- Every named element lies in a scratch array of 64 rows of 192. -/
abbrev InB (v7 v : IVec S16 32) : Prop := ∀ a x, ((![v7, v] : Fin 2 → IVec S16 32) a x).toNat < S64x192.size a

/-- A side condition that the body assumes of a gather's indices, with what decides it: it says no more than `InB`. -/
structure Chk where
  P : IVec S16 32 → IVec S16 32 → Prop
  dec : ∀ v7 v, Decidable (P v7 v)
  inb : ∀ v7 v, P v7 v → InB v7 v
  of : ∀ v7 v, InB v7 v → P v7 v

/-- The position tried next. -/
abbrev candV (w : BitVec 32) (pos : IVec S16 32) : IVec S16 32 := addi pos (broadcast S16 w)

/-- The element of the row that decides it. -/
abbrev safeV (w : BitVec 32) (pos : IVec S16 32) : IVec S16 32 :=
  subi (minsi (candV w pos) (broadcast S16 191#32)) (broadcast S16 1#32)

/-- The position after a step of the search at which the element `c` was read. -/
abbrev nextV (u : Vec F S16 .f32) (w : BitVec 32) (pos : IVec S16 32) (c : Vec F S16 .f32) : IVec S16 32 :=
  select (andi (cmpi .sle (candV w pos) (broadcast S16 191#32)) (cmpf .ole c u)) (candV w pos) pos

/-- The last of the sixteen rays' values: the interpolation between the edges read. -/
abbrev lerpV (u c0 c1 b0 b1 : Vec F S16 .f32) : FVec F S16 .f32 :=
  addf b0 (mulf (divf (subf u c0)
    (select (cmpf .olt (subf c1 c0) (broadcast S16 (Scalar.ofBits (F := F) .f32 0x3727C5AC#32)))
      (broadcast S16 (Scalar.ofBits (F := F) .f32 0x3F800000#32)) (subf c1 c0))) (subf b1 b0))

variable {p : Proc τ} (arg6 arg7 : Memref sig p.kind .vmem S64x192 .f32) (arg8 arg9 : Memref sig p.kind .vmem S64x96 .f32)

/-- One step of the search. -/
def step (C : Chk) (v7 : IVec S16 32) (u : Vec F S16 .f32) (w : BitVec 32) (pos : IVec S16 32) :
    Prog (TpuEff nD τ sig (Elt F) Λ₀ p) (IVec S16 32) := do
  let hw ← Prog.lift (TpuEff.assume (C.P v7 (safeV w pos)) (C.dec v7 (safeV w pos)))
  let c : Vec F S16 .f32 ← SparseCore.vectorLoadIdx arg6 ![v7, safeV w pos] (C.inb _ _ hw.down) (View.loads_vmem h_S64x192)
  pure (nextV u w pos c)

/-- The block: sixteen rays' uniforms loaded at `offu`, their results stored at `offo`. -/
def block (C : Fin 10 → Chk) (v7 : IVec S16 32) (offu offo : Fin 2 → Nat)
    (hu : ∀ a, offu a + S1x16.size a ≤ S64x96.size a) (ho : ∀ a, offo a + S1x16.size a ≤ S64x96.size a) :
    Prog (TpuEff nD τ sig (Elt F) Λ₀ p) Unit := do
  let uld : Vec F S1x16 .f32 ← Prog.lift (.load arg8 (Rect.unit (s := S64x96) offu S1x16.size hu).toLoadRect (View.loadsAt_vmem h_S1x16))
  let p1 ← step arg6 (C 0) v7 (shapeCast S16 uld shapeCasts_S1x16_S16) 128#32 (broadcast S16 0#32)
  let p2 ← step arg6 (C 1) v7 (shapeCast S16 uld shapeCasts_S1x16_S16) 64#32 p1
  let p3 ← step arg6 (C 2) v7 (shapeCast S16 uld shapeCasts_S1x16_S16) 32#32 p2
  let p4 ← step arg6 (C 3) v7 (shapeCast S16 uld shapeCasts_S1x16_S16) 16#32 p3
  let p5 ← step arg6 (C 4) v7 (shapeCast S16 uld shapeCasts_S1x16_S16) 8#32 p4
  let p6 ← step arg6 (C 5) v7 (shapeCast S16 uld shapeCasts_S1x16_S16) 4#32 p5
  let p7 ← step arg6 (C 6) v7 (shapeCast S16 uld shapeCasts_S1x16_S16) 2#32 p6
  let p8 ← step arg6 (C 7) v7 (shapeCast S16 uld shapeCasts_S1x16_S16) 1#32 p7
  let h9 ← Prog.lift (TpuEff.assume ((C 8).P v7 (maxsi (subi p8 (broadcast S16 1#32)) (broadcast S16 0#32))) ((C 8).dec v7 (maxsi (subi p8 (broadcast S16 1#32)) (broadcast S16 0#32))))
  let h10 ← Prog.lift (TpuEff.assume ((C 9).P v7 (minsi p8 (broadcast S16 190#32))) ((C 9).dec v7 (minsi p8 (broadcast S16 190#32))))
  let c0 : Vec F S16 .f32 ← SparseCore.vectorLoadIdx arg6 ![v7, maxsi (subi p8 (broadcast S16 1#32)) (broadcast S16 0#32)] ((C 8).inb _ _ h9.down) (View.loads_vmem h_S64x192)
  let c1 : Vec F S16 .f32 ← SparseCore.vectorLoadIdx arg6 ![v7, minsi p8 (broadcast S16 190#32)] ((C 9).inb _ _ h10.down) (View.loads_vmem h_S64x192)
  let b0 : Vec F S16 .f32 ← SparseCore.vectorLoadIdx arg7 ![v7, maxsi (subi p8 (broadcast S16 1#32)) (broadcast S16 0#32)] ((C 8).inb _ _ h9.down) (View.loads_vmem h_S64x192)
  let b1 : Vec F S16 .f32 ← SparseCore.vectorLoadIdx arg7 ![v7, minsi p8 (broadcast S16 190#32)] ((C 9).inb _ _ h10.down) (View.loads_vmem h_S64x192)
  let _old : Vec F S1x16 .f32 ← Prog.lift (.load arg9 (Rect.unit (s := S64x96) offo S1x16.size ho).toLoadRect (View.loadsAt_vmem h_S1x16))
  Prog.lift (.store arg9 (Rect.unit (s := S64x96) offo S1x16.size ho) (shapeCast S1x16 (lerpV (shapeCast S16 uld shapeCasts_S1x16_S16) c0 c1 b0 b1) shapeCasts_S16_S1x16) Finset.univ (View.stores_vmem_bits_univ h_S1x16 rfl) (.inl rfl))

/-! The side conditions of the six blocks, as printed. -/

/-- Those of block 0. -/
def chk0 : Fin 10 → Chk := ![
  ⟨k1_chk1, k1_chk1.dec, fun _ _ h => h, fun _ _ h => h⟩,
  ⟨k1_chk2, k1_chk2.dec, fun _ _ h => h, fun _ _ h => h⟩,
  ⟨k1_chk3, k1_chk3.dec, fun _ _ h => h, fun _ _ h => h⟩,
  ⟨k1_chk4, k1_chk4.dec, fun _ _ h => h, fun _ _ h => h⟩,
  ⟨k1_chk5, k1_chk5.dec, fun _ _ h => h, fun _ _ h => h⟩,
  ⟨k1_chk6, k1_chk6.dec, fun _ _ h => h, fun _ _ h => h⟩,
  ⟨k1_chk7, k1_chk7.dec, fun _ _ h => h, fun _ _ h => h⟩,
  ⟨k1_chk8, k1_chk8.dec, fun _ _ h => h, fun _ _ h => h⟩,
  ⟨k1_chk9, k1_chk9.dec, fun _ _ h => h.1, fun _ _ h => ⟨h, h⟩⟩,
  ⟨k1_chk10, k1_chk10.dec, fun _ _ h => h.1, fun _ _ h => ⟨h, h⟩⟩]

/-- Those of block 1. -/
def chk1 : Fin 10 → Chk := ![
  ⟨k1_chk11, k1_chk11.dec, fun _ _ h => h, fun _ _ h => h⟩,
  ⟨k1_chk12, k1_chk12.dec, fun _ _ h => h, fun _ _ h => h⟩,
  ⟨k1_chk13, k1_chk13.dec, fun _ _ h => h, fun _ _ h => h⟩,
  ⟨k1_chk14, k1_chk14.dec, fun _ _ h => h, fun _ _ h => h⟩,
  ⟨k1_chk15, k1_chk15.dec, fun _ _ h => h, fun _ _ h => h⟩,
  ⟨k1_chk16, k1_chk16.dec, fun _ _ h => h, fun _ _ h => h⟩,
  ⟨k1_chk17, k1_chk17.dec, fun _ _ h => h, fun _ _ h => h⟩,
  ⟨k1_chk18, k1_chk18.dec, fun _ _ h => h, fun _ _ h => h⟩,
  ⟨k1_chk19, k1_chk19.dec, fun _ _ h => h.1, fun _ _ h => ⟨h, h⟩⟩,
  ⟨k1_chk20, k1_chk20.dec, fun _ _ h => h.1, fun _ _ h => ⟨h, h⟩⟩]

/-- Those of block 2. -/
def chk2 : Fin 10 → Chk := ![
  ⟨k1_chk21, k1_chk21.dec, fun _ _ h => h, fun _ _ h => h⟩,
  ⟨k1_chk22, k1_chk22.dec, fun _ _ h => h, fun _ _ h => h⟩,
  ⟨k1_chk23, k1_chk23.dec, fun _ _ h => h, fun _ _ h => h⟩,
  ⟨k1_chk24, k1_chk24.dec, fun _ _ h => h, fun _ _ h => h⟩,
  ⟨k1_chk25, k1_chk25.dec, fun _ _ h => h, fun _ _ h => h⟩,
  ⟨k1_chk26, k1_chk26.dec, fun _ _ h => h, fun _ _ h => h⟩,
  ⟨k1_chk27, k1_chk27.dec, fun _ _ h => h, fun _ _ h => h⟩,
  ⟨k1_chk28, k1_chk28.dec, fun _ _ h => h, fun _ _ h => h⟩,
  ⟨k1_chk29, k1_chk29.dec, fun _ _ h => h.1, fun _ _ h => ⟨h, h⟩⟩,
  ⟨k1_chk30, k1_chk30.dec, fun _ _ h => h.1, fun _ _ h => ⟨h, h⟩⟩]

/-- Those of block 3. -/
def chk3 : Fin 10 → Chk := ![
  ⟨k1_chk31, k1_chk31.dec, fun _ _ h => h, fun _ _ h => h⟩,
  ⟨k1_chk32, k1_chk32.dec, fun _ _ h => h, fun _ _ h => h⟩,
  ⟨k1_chk33, k1_chk33.dec, fun _ _ h => h, fun _ _ h => h⟩,
  ⟨k1_chk34, k1_chk34.dec, fun _ _ h => h, fun _ _ h => h⟩,
  ⟨k1_chk35, k1_chk35.dec, fun _ _ h => h, fun _ _ h => h⟩,
  ⟨k1_chk36, k1_chk36.dec, fun _ _ h => h, fun _ _ h => h⟩,
  ⟨k1_chk37, k1_chk37.dec, fun _ _ h => h, fun _ _ h => h⟩,
  ⟨k1_chk38, k1_chk38.dec, fun _ _ h => h, fun _ _ h => h⟩,
  ⟨k1_chk39, k1_chk39.dec, fun _ _ h => h.1, fun _ _ h => ⟨h, h⟩⟩,
  ⟨k1_chk40, k1_chk40.dec, fun _ _ h => h.1, fun _ _ h => ⟨h, h⟩⟩]

/-- Those of block 4. -/
def chk4 : Fin 10 → Chk := ![
  ⟨k1_chk41, k1_chk41.dec, fun _ _ h => h, fun _ _ h => h⟩,
  ⟨k1_chk42, k1_chk42.dec, fun _ _ h => h, fun _ _ h => h⟩,
  ⟨k1_chk43, k1_chk43.dec, fun _ _ h => h, fun _ _ h => h⟩,
  ⟨k1_chk44, k1_chk44.dec, fun _ _ h => h, fun _ _ h => h⟩,
  ⟨k1_chk45, k1_chk45.dec, fun _ _ h => h, fun _ _ h => h⟩,
  ⟨k1_chk46, k1_chk46.dec, fun _ _ h => h, fun _ _ h => h⟩,
  ⟨k1_chk47, k1_chk47.dec, fun _ _ h => h, fun _ _ h => h⟩,
  ⟨k1_chk48, k1_chk48.dec, fun _ _ h => h, fun _ _ h => h⟩,
  ⟨k1_chk49, k1_chk49.dec, fun _ _ h => h.1, fun _ _ h => ⟨h, h⟩⟩,
  ⟨k1_chk50, k1_chk50.dec, fun _ _ h => h.1, fun _ _ h => ⟨h, h⟩⟩]

/-- Those of block 5. -/
def chk5 : Fin 10 → Chk := ![
  ⟨k1_chk51, k1_chk51.dec, fun _ _ h => h, fun _ _ h => h⟩,
  ⟨k1_chk52, k1_chk52.dec, fun _ _ h => h, fun _ _ h => h⟩,
  ⟨k1_chk53, k1_chk53.dec, fun _ _ h => h, fun _ _ h => h⟩,
  ⟨k1_chk54, k1_chk54.dec, fun _ _ h => h, fun _ _ h => h⟩,
  ⟨k1_chk55, k1_chk55.dec, fun _ _ h => h, fun _ _ h => h⟩,
  ⟨k1_chk56, k1_chk56.dec, fun _ _ h => h, fun _ _ h => h⟩,
  ⟨k1_chk57, k1_chk57.dec, fun _ _ h => h, fun _ _ h => h⟩,
  ⟨k1_chk58, k1_chk58.dec, fun _ _ h => h, fun _ _ h => h⟩,
  ⟨k1_chk59, k1_chk59.dec, fun _ _ h => h.1, fun _ _ h => ⟨h, h⟩⟩,
  ⟨k1_chk60, k1_chk60.dec, fun _ _ h => h.1, fun _ _ h => ⟨h, h⟩⟩]

set_option maxRecDepth 100000 in
set_option maxHeartbeats 4000000 in
/-- The inner loop's body is the six blocks one after the other. -/
theorem t2_body_eq (i : grid1.Coords) (arg2 : Memref sig .scVector .hbm S65536x192 .f32) (harg2 : arg2.IsWhole)
    (arg3 : Memref sig .scVector .hbm S65536x192 .f32) (harg3 : arg3.IsWhole) (arg4 : Memref sig .scVector .hbm S65536x96 .f32)
    (harg4 : arg4.IsWhole) (arg5 : Memref sig .scVector .hbm S65536x96 .f32) (harg5 : arg5.IsWhole)
    (arg6 : Memref sig .scVector .vmem S64x192 .f32) (harg6 : arg6.IsWhole) (arg7 : Memref sig .scVector .vmem S64x192 .f32)
    (harg7 : arg7.IsWhole) (arg8 : Memref sig .scVector .vmem S64x96 .f32) (harg8 : arg8.IsWhole)
    (arg9 : Memref sig .scVector .vmem S64x96 .f32) (harg9 : arg9.IsWhole) (r0 r1 r2 r3 : DmaSems sig S_)
    (t : Fin k1_t2_loop.trips) (x : Unit) :
    k1_t2_body (F := F) i arg2 harg2 arg3 harg3 arg4 harg4 arg5 harg5 arg6 harg6 arg7 harg7 arg8 harg8 arg9 harg9 r0 r1 r2 r3 t x
      = (do
          block arg6 arg7 arg8 arg9 chk0 (broadcast S16 (Scf.iv 0#32 1#32 t)) (k1_off3 t) (k1_off4 t) (k1_off3_inb t) (k1_off4_inb t)
          block arg6 arg7 arg8 arg9 chk1 (broadcast S16 (Scf.iv 0#32 1#32 t)) (k1_off5 t) (k1_off6 t) (k1_off5_inb t) (k1_off6_inb t)
          block arg6 arg7 arg8 arg9 chk2 (broadcast S16 (Scf.iv 0#32 1#32 t)) (k1_off7 t) (k1_off8 t) (k1_off7_inb t) (k1_off8_inb t)
          block arg6 arg7 arg8 arg9 chk3 (broadcast S16 (Scf.iv 0#32 1#32 t)) (k1_off9 t) (k1_off10 t) (k1_off9_inb t) (k1_off10_inb t)
          block arg6 arg7 arg8 arg9 chk4 (broadcast S16 (Scf.iv 0#32 1#32 t)) (k1_off11 t) (k1_off12 t) (k1_off11_inb t) (k1_off12_inb t)
          block arg6 arg7 arg8 arg9 chk5 (broadcast S16 (Scf.iv 0#32 1#32 t)) (k1_off13 t) (k1_off14 t) (k1_off13_inb t) (k1_off14_inb t)
          pure ⟨⟩) := rfl

end Cert.Proof.Ray
-- ==== Proof.Model.lean ====
/-
  The value of one ray as a function of its row of edges, its row of midpoints and its uniform number, over any float
  values; and the lane-by-lane reading of the vector operations of one block of sixteen rays as that function.
-/
module

public import proofs.«01_k».proof.Proof.Block
public import Idealize.ShloMosaic.Lib.WordCmp
public import Idealize.ShloMosaic.Lib.Pointwise.Index

@[expose] public section

noncomputable section

namespace Cert.Proof.Ray

open Cert.KernelIdeal Cert.KernelIdeal.Gen
open Idealize.ShloMosaic Idealize.SL.Sem

variable {F : FTy → Type} [FloatOps F]

/-! ## One ray -/

/-- One step of the binary search at width `w` from position `p`: the position moves on by `w` where that stays within
    the row and the edge just below is at most the uniform number. -/
def nextN (c : Fin 192 → F .f32) (u : F .f32) (w p : ℕ) : ℕ :=
  if p + w ≤ 191 ∧ FloatOps.cmpf .ole (c (Fin.ofNat 192 (min (p + w) 191 - 1))) u = 1#1 then p + w else p

/-- The position that the eight steps find. -/
def findN (c : Fin 192 → F .f32) (u : F .f32) : ℕ :=
  nextN c u 1 (nextN c u 2 (nextN c u 4 (nextN c u 8 (nextN c u 16 (nextN c u 32 (nextN c u 64 (nextN c u 128 0)))))))

/-- The linear interpolation between two edges, a small width replaced by one. -/
def lerpN (u c0 c1 b0 b1 : F .f32) : F .f32 :=
  FloatOps.addf b0 (FloatOps.mulf (FloatOps.divf (FloatOps.subf u c0)
    (Scalar.select (FloatOps.cmpf .olt (FloatOps.subf c1 c0) (Scalar.ofBits (F := F) .f32 0x3727C5AC#32))
      (Scalar.ofBits (F := F) .f32 0x3F800000#32) (FloatOps.subf c1 c0))) (FloatOps.subf b1 b0))

/-- The value of a ray: the interpolation at the interval that the search finds. -/
def ray (c z : Fin 192 → F .f32) (u : F .f32) : F .f32 :=
  lerpN u (c (Fin.ofNat 192 (findN c u - 1))) (c (Fin.ofNat 192 (min (findN c u) 190)))
    (z (Fin.ofNat 192 (findN c u - 1))) (z (Fin.ofNat 192 (min (findN c u) 190)))

theorem nextN_le {c : Fin 192 → F .f32} {u : F .f32} {w p : ℕ} (h : p ≤ 191) : nextN c u w p ≤ 191 := by
  unfold nextN; split_ifs with hc
  · exact hc.1
  · exact h

theorem findN_le (c : Fin 192 → F .f32) (u : F .f32) : findN c u ≤ 191 := by
  unfold findN
  exact nextN_le (nextN_le (nextN_le (nextN_le (nextN_le (nextN_le (nextN_le (nextN_le (by omega))))))))

/-! ## Words -/

theorem toNat_word {a : ℕ} (h : a < 2 ^ 31) : (BitVec.ofNat 32 a).toNat = a := by
  rw [BitVec.toNat_ofNat]; exact Nat.mod_eq_of_lt (by omega)

theorem slt_word {a b : ℕ} (ha : a < 2 ^ 31) (hb : b < 2 ^ 31) : (BitVec.ofNat 32 a).slt (BitVec.ofNat 32 b) = decide (a < b) := by
  have := WordCmp.cmpi_slt_ofNat (w := 32) (a := a) (b := b) (by omega) (by omega)
  rw [show IntOp.cmpi .slt (BitVec.ofNat 32 a) (BitVec.ofNat 32 b) = BitVec.ofBool ((BitVec.ofNat 32 a).slt (BitVec.ofNat 32 b)) from rfl] at this
  revert this; cases (BitVec.ofNat 32 a).slt (BitVec.ofNat 32 b) <;> cases (decide (a < b)) <;> decide

theorem min_word {a b : ℕ} (ha : a < 2 ^ 31) (hb : b < 2 ^ 31) : IntOp.minsi (BitVec.ofNat 32 a) (BitVec.ofNat 32 b) = BitVec.ofNat 32 (min a b) := by
  unfold IntOp.minsi; rw [slt_word ha hb]
  by_cases h : a < b
  · rw [if_pos (by simpa using h), Nat.min_eq_left h.le]
  · rw [if_neg (by simpa using h), Nat.min_eq_right (Nat.not_lt.mp h)]

theorem sub_word {a : ℕ} (h1 : 1 ≤ a) : IntOp.subi (BitVec.ofNat 32 a) 1#32 = BitVec.ofNat 32 (a - 1) := by
  obtain ⟨b, rfl⟩ := Nat.exists_eq_add_of_le' h1
  show BitVec.ofNat 32 (b + 1) - 1#32 = BitVec.ofNat 32 b
  rw [BitVec.ofNat_add, BitVec.add_sub_cancel]

theorem pred_word {a : ℕ} (h : a < 2 ^ 31) : IntOp.maxsi (IntOp.subi (BitVec.ofNat 32 a) 1#32) 0#32 = BitVec.ofNat 32 (a - 1) := by
  rcases Nat.eq_zero_or_pos a with rfl | h1
  · decide
  · rw [sub_word h1]; unfold IntOp.maxsi
    rw [show (0#32 : BitVec 32) = BitVec.ofNat 32 0 from rfl, slt_word (by omega) (by omega)]
    by_cases h0 : 0 < a - 1
    · rw [if_pos (by simpa using h0)]
    · rw [if_neg (by simpa using h0)]; congr 1; omega

/-! ## The lanes of a block -/

/-- Sixteen positions as a vector of words. -/
abbrev posV (p : S16.Idx → ℕ) : IVec S16 32 := fun x => BitVec.ofNat 32 (p x)

theorem safeV_apply {w : ℕ} {p : S16.Idx → ℕ} (h1 : 1 ≤ w) (hw : w ≤ 128) (x : S16.Idx) (hp : p x ≤ 191) :
    safeV (BitVec.ofNat 32 w) (posV p) x = BitVec.ofNat 32 (min (p x + w) 191 - 1) := by
  show IntOp.subi (IntOp.minsi (IntOp.addi (BitVec.ofNat 32 (p x)) (BitVec.ofNat 32 w)) (BitVec.ofNat 32 191)) 1#32 = _
  rw [show IntOp.addi (BitVec.ofNat 32 (p x)) (BitVec.ofNat 32 w) = BitVec.ofNat 32 (p x + w) from BitVec.ofNat_add_ofNat _ _,
    min_word (by omega) (by omega), sub_word (by omega)]

theorem nextV_apply {w : ℕ} {p : S16.Idx → ℕ} (hw : w ≤ 128) (u c : Vec F S16 .f32) (x : S16.Idx) (hp : p x ≤ 191)
    (cc : Fin 192 → F .f32) (hc : c x = cc (Fin.ofNat 192 (min (p x + w) 191 - 1))) :
    nextV u (BitVec.ofNat 32 w) (posV p) c x = BitVec.ofNat 32 (nextN cc (u x) w (p x)) := by
  show Scalar.select (IntOp.andi (IntOp.cmpi .sle (IntOp.addi (BitVec.ofNat 32 (p x)) (BitVec.ofNat 32 w)) (BitVec.ofNat 32 191))
    (FloatOps.cmpf .ole (c x) (u x))) (IntOp.addi (BitVec.ofNat 32 (p x)) (BitVec.ofNat 32 w)) (BitVec.ofNat 32 (p x)) = _
  rw [show IntOp.addi (BitVec.ofNat 32 (p x)) (BitVec.ofNat 32 w) = BitVec.ofNat 32 (p x + w) from BitVec.ofNat_add_ofNat _ _,
    WordCmp.cmpi_sle_ofNat (by omega) (by omega), hc]
  unfold nextN Scalar.select
  generalize hb : FloatOps.cmpf .ole (cc (Fin.ofNat 192 (min (p x + w) 191 - 1))) (u x) = b
  by_cases h : p x + w ≤ 191
  · rcases BitVec.eq_zero_or_eq_one b with rfl | rfl
    · rw [if_neg (by simp [h, IntOp.andi]), if_neg (by simp)]
    · rw [if_pos (by simp [h, IntOp.andi]), if_pos ⟨h, rfl⟩]
  · rw [if_neg (by simp [h, IntOp.andi]), if_neg (by simp [h])]

/-- Row `t` of a scratch array of 64 rows of 192. -/
abbrev row (f : S64x192.Idx → F .f32) (t : Fin 64) : Fin 192 → F .f32 := fun k => f (ix2 t k)

/-- A gather at row `t` reads that row at the positions named. -/
theorem loadIdx_row (f : Vec F S64x192 .f32) (t : Fin 64) (v : IVec S16 32) (h : InB (broadcast S16 (BitVec.ofNat 32 t.val)) v)
    (x : S16.Idx) (k : ℕ) (hv : v x = BitVec.ofNat 32 k) (hk : k < 192) :
    loadIdx f ![broadcast S16 (BitVec.ofNat 32 t.val), v] h x = row f t (Fin.ofNat 192 k) := by
  show f (idxAt _ h x) = f (ix2 t (Fin.ofNat 192 k))
  congr 1
  refine (eq_ix2 _).trans ?_
  congr 1
  · apply Fin.ext
    show (BitVec.ofNat 32 t.val).toNat = t.val
    exact toNat_word (by have := t.isLt; omega)
  · apply Fin.ext
    show (v x).toNat = k % 192
    rw [hv, toNat_word (by omega), Nat.mod_eq_of_lt hk]

theorem inB_of (t : Fin 64) (v : IVec S16 32) (k : S16.Idx → ℕ) (hv : ∀ x, v x = BitVec.ofNat 32 (k x)) (hk : ∀ x, k x < 192) :
    InB (broadcast S16 (BitVec.ofNat 32 t.val)) v := by
  intro a x
  match a with
  | ⟨0, _⟩ =>
    show (BitVec.ofNat 32 t.val).toNat < 64
    rw [toNat_word (by have := t.isLt; omega)]; exact t.isLt
  | ⟨1, _⟩ =>
    show (v x).toNat < 192
    rw [hv, toNat_word (by have := hk x; omega)]; exact hk x

/-! ## A scratch array of results, part of it written -/

/-- The values of a chunk's 64 rows of 96 rays. -/
def rays (fc fz : S64x192.Idx → F .f32) (fu : S64x96.Idx → F .f32) : S64x96.Idx → F .f32 :=
  fun x => ray (row fc (x 0)) (row fz (x 0)) (fu x)

/-- The first `n` rays (in row-major order) at their values, the others as `fo` has them. -/
def part (fc fz : S64x192.Idx → F .f32) (fu fo : S64x96.Idx → F .f32) (n : ℕ) : S64x96.Idx → F .f32 :=
  fun x => if 96 * (x 0).val + (x 1).val < n then rays fc fz fu x else fo x

theorem part_zero (fc fz : S64x192.Idx → F .f32) (fu fo : S64x96.Idx → F .f32) : part fc fz fu fo 0 = fo := by
  funext x; simp [part]

theorem part_all (fc fz : S64x192.Idx → F .f32) (fu fo : S64x96.Idx → F .f32) : part fc fz fu fo 6144 = rays fc fz fu := by
  funext x
  have h0 : (x 0).val < 64 := (x 0).isLt
  have h1 : (x 1).val < 96 := (x 1).isLt
  unfold part; rw [if_pos (by omega)]

end Cert.Proof.Ray
-- ==== Proof.Setup.lean ====
/-
  The launch set-up: the program as the launch theorem sees it, the resource algebra (the handshakes' rounds, the first
  call's staging cells, the transfers' counters), the arrays and the scratch memory by name.
-/
module

public import proofs.«01_k».proof.Proof.Model
public import proofs.«01_k».proof.Proof.Gen.KernelIdeal.Launch
public import proofs.«01_k».proof.Proof.Gen.KernelIdeal.Points

@[expose] public section

noncomputable section

namespace Cert.Proof.Ray

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR₁ : Type := URounds (GSem nD τ sig) Unit
abbrev UU : Type := UH × (UR₁ × Counters)

/-- The assertions of the proof. -/
abbrev MM (F : FTy → Type) : Type _ := MT nD τ sig (HIx 1) (Elt F) ℕ UU ℕ

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds, the left factor of the right one. -/
def ER : Emb UR₁ (MT nD τ sig (HIx 1) (Elt F) ℕ UU ℕ) := (Emb.inl : Emb UR₁ (UR₁ × Counters)).trans embR

instance ER_landsIn : (ER : Emb UR₁ 𝕄).LandsIn (upEmb : UEmb _ 𝕄) := by
  unfold ER embR; infer_instance

/-! ## The buffers -/

abbrev cdfV : Memref sig Kind.scVector Space.hbm S65536x192 EltTy.f32 := Memref.whole main_v0_0_scv
abbrev midV : Memref sig Kind.scVector Space.hbm S65536x192 EltTy.f32 := Memref.whole main_v0_1_scv
abbrev uniV : Memref sig Kind.scVector Space.hbm S65536x96 EltTy.f32 := Memref.whole main_arg4_scv
abbrev outV : Memref sig Kind.scVector Space.hbm S65536x96 EltTy.f32 := Memref.whole main_v1_scv
abbrev sC : Memref sig Kind.scVector Space.vmem S64x192 EltTy.f32 := Memref.whole cc1_scratch0
abbrev sZ : Memref sig Kind.scVector Space.vmem S64x192 EltTy.f32 := Memref.whole cc1_scratch1
abbrev sU : Memref sig Kind.scVector Space.vmem S64x96 EltTy.f32 := Memref.whole cc1_scratch2
abbrev sO : Memref sig Kind.scVector Space.vmem S64x96 EltTy.f32 := Memref.whole cc1_scratch3

end Cert.Proof.Ray
-- ==== Proof.BlockRun.lean ====
/-
  The run of a block: from the scratch arrays of edges, midpoints and uniform numbers it writes sixteen rays' values into
  the scratch array of results; and of the six blocks of one row.
-/
module

public import proofs.«01_k».proof.Proof.Setup
public import Idealize.ShloMosaic.Lib.Pipeline.Value

@[expose] public section

noncomputable section

namespace Cert.Proof.Ray

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (c : Fin τ.nSC) (i : Fin τ.nSub)

/-! ## What the block's loads and its store leave -/

variable (fc fz : S64x192.Idx → F .f32) (fu fo : S64x96.Idx → F .f32)

/-- The offsets of row `t`'s sixteen columns from `16 * b` on. -/
abbrev offB (t b : ℕ) : Fin 2 → ℕ := ![t, 16 * b]

/-- The index of lane `x` of block `b` of row `t`. -/
theorem store_part (t : Fin 64) (b : ℕ) (off : Fin 2 → ℕ) (ho : off = offB t.val b) (hinb : ∀ a, off a + S1x16.size a ≤ S64x96.size a)
    (w : S1x16.Idx → F .f32)
    (hw : ∀ x : S1x16.Idx, w x = rays fc fz fu ((Rect.unit (s := S64x96) off S1x16.size hinb).toLoadRect.idx x)) :
    (sO.access (Rect.unit (s := S64x96) off S1x16.size hinb)).write (Elt F) (part fc fz fu fo (96 * t.val + 16 * b)) w Finset.univ
      = part fc fz fu fo (96 * t.val + 16 * (b + 1)) := by
  have hb : 16 * b + 16 ≤ 96 := by have := hinb 1; subst ho; exact this
  refine (View.write_whole_slice_unit (Val := Elt F) cc1_scratch3 off S1x16.size hinb _ w).trans ?_
  funext y
  have h1 : (y 1).val < 96 := (y 1).isLt
  subst ho
  unfold updateSlice
  split
  · next hin =>
    have e0 := hin 0; have e1 := hin 1
    change t.val ≤ (y 0).val ∧ (y 0).val < t.val + 1 at e0
    change 16 * b ≤ (y 1).val ∧ (y 1).val < 16 * b + 16 at e1
    rw [hw]
    unfold part
    rw [if_pos (by omega)]
    congr 1
    funext a
    apply Fin.ext
    have := hin a
    show offB t.val b a + 1 * ((y a).val - offB t.val b a) = (y a).val
    omega
  · next hout =>
    unfold part
    have hne : ¬ ((y 0).val = t.val ∧ 16 * b ≤ (y 1).val ∧ (y 1).val < 16 * b + 16) := by
      rintro ⟨e0, e1, e2⟩
      refine hout fun a => ?_
      match a with
      | ⟨0, _⟩ => exact ⟨e0.ge, by show (y 0).val < t.val + 1; omega⟩
      | ⟨1, _⟩ => exact ⟨e1, e2⟩
    by_cases h : 96 * (y 0).val + (y 1).val < 96 * t.val + 16 * b
    · rw [if_pos h, if_pos (by omega)]
    · rw [if_neg h, if_neg (by omega)]

omit [FloatOps F] in
/-- The whole of the edges' scratch array, as a gather sees it. -/
theorem pts_sC (f : Buf (Elt F) ((V d c i).loc cc1_scratch0)) :
    ((sC.access (.whole S64x192)).loc (V d c i) ↦{fullShare} f : sProp 𝕄) = (V d c i).loc cc1_scratch0 ↦{fullShare} f := rfl
omit [FloatOps F] in
/-- The whole of the midpoints' scratch array, as a gather sees it. -/
theorem pts_sZ (f : Buf (Elt F) ((V d c i).loc cc1_scratch1)) :
    ((sZ.access (.whole S64x192)).loc (V d c i) ↦{fullShare} f : sProp 𝕄) = (V d c i).loc cc1_scratch1 ↦{fullShare} f := rfl
omit [FloatOps F] in
/-- The whole of the uniform numbers' scratch array, as a load sees it. -/
theorem pts_sU (f : Buf (Elt F) ((V d c i).loc cc1_scratch2)) :
    (sU.view.loc (V d c i) ↦{fullShare} f : sProp 𝕄) = (V d c i).loc cc1_scratch2 ↦{fullShare} f := rfl
omit [FloatOps F] in
/-- The whole of the results' scratch array, as a load sees it. -/
theorem pts_sO (f : Buf (Elt F) ((V d c i).loc cc1_scratch3)) :
    (sO.view.loc (V d c i) ↦{fullShare} f : sProp 𝕄) = (V d c i).loc cc1_scratch3 ↦{fullShare} f := rfl
omit [FloatOps F] in
/-- The whole of the results' scratch array, as a store sees it. -/
theorem pts_sO_access (r : Rect S64x96) (f : Buf (Elt F) ((V d c i).loc cc1_scratch3)) :
    ((sO.access r).loc (V d c i) ↦{fullShare} f : sProp 𝕄) = (V d c i).loc cc1_scratch3 ↦{fullShare} f := rfl

variable {α : Type}

/-- A gather of the edges at positions below the row's length. -/
theorem wp_gatherC (t : Fin 64) (v : IVec S16 32) (h : InB (broadcast S16 (BitVec.ofNat 32 t.val)) v) (hl : sC.view.Loads)
    (k : Vec F S16 .f32 → Prog (TpuEff nD τ sig (Elt F) Λ₀ (V d c i).2) α) {Q : α → sProp 𝕄} :
    (((V d c i).loc cc1_scratch0 ↦{fullShare} fc) : sProp 𝕄)
      ⊢ iprop((((V d c i).loc cc1_scratch0 ↦{fullShare} fc) -∗ wp frame (wpE defs₀ 𝒱₀ (V d c i) none) Set.univ (k (loadIdx fc ![broadcast S16 (BitVec.ofNat 32 t.val), v] h)) Q)
        -∗ wp frame (wpE defs₀ 𝒱₀ (V d c i) none) Set.univ (SparseCore.vectorLoadIdx (p := (V d c i).2) sC ![broadcast S16 (BitVec.ofNat 32 t.val), v] h hl >>= k) Q) := by
  have := SparseCore.wp_vectorLoadIdx (defs := defs₀) 𝒱₀ (V d c i) none Set.univ (base := sC) (S := Finset.univ) (q := fullShare)
    (f := fc) (idxs := ![broadcast S16 (BitVec.ofNat 32 t.val), v]) (h := h) (hl := hl) (k := k) (Q := Q) (Finset.subset_univ _)
  rw [show ((sC.access (.whole S64x192)).read (Elt F) fc) = fc from Memref.read_access_whole (Elt F) cc1_scratch0 fc] at this
  exact this

/-- A gather of the midpoints at positions below the row's length. -/
theorem wp_gatherZ (t : Fin 64) (v : IVec S16 32) (h : InB (broadcast S16 (BitVec.ofNat 32 t.val)) v) (hl : sZ.view.Loads)
    (k : Vec F S16 .f32 → Prog (TpuEff nD τ sig (Elt F) Λ₀ (V d c i).2) α) {Q : α → sProp 𝕄} :
    (((V d c i).loc cc1_scratch1 ↦{fullShare} fz) : sProp 𝕄)
      ⊢ iprop((((V d c i).loc cc1_scratch1 ↦{fullShare} fz) -∗ wp frame (wpE defs₀ 𝒱₀ (V d c i) none) Set.univ (k (loadIdx fz ![broadcast S16 (BitVec.ofNat 32 t.val), v] h)) Q)
        -∗ wp frame (wpE defs₀ 𝒱₀ (V d c i) none) Set.univ (SparseCore.vectorLoadIdx (p := (V d c i).2) sZ ![broadcast S16 (BitVec.ofNat 32 t.val), v] h hl >>= k) Q) := by
  have := SparseCore.wp_vectorLoadIdx (defs := defs₀) 𝒱₀ (V d c i) none Set.univ (base := sZ) (S := Finset.univ) (q := fullShare)
    (f := fz) (idxs := ![broadcast S16 (BitVec.ofNat 32 t.val), v]) (h := h) (hl := hl) (k := k) (Q := Q) (Finset.subset_univ _)
  rw [show ((sZ.access (.whole S64x192)).read (Elt F) fz) = fz from Memref.read_access_whole (Elt F) cc1_scratch1 fz] at this
  exact this

/-- One step of the search, from positions `p` to the positions it moves to. -/
theorem wp_step (C : Chk) (t : Fin 64) (u : Vec F S16 .f32) (w : ℕ) (h1 : 1 ≤ w) (hw : w ≤ 128) (p : S16.Idx → ℕ) (hp : ∀ x, p x ≤ 191)
    (k : IVec S16 32 → Prog (TpuEff nD τ sig (Elt F) Λ₀ (V d c i).2) α) {Q : α → sProp 𝕄} :
    (((V d c i).loc cc1_scratch0 ↦{fullShare} fc) : sProp 𝕄)
      ⊢ iprop((((V d c i).loc cc1_scratch0 ↦{fullShare} fc) -∗ wp frame (wpE defs₀ 𝒱₀ (V d c i) none) Set.univ (k (posV fun x => nextN (row fc t) (u x) w (p x))) Q)
        -∗ wp frame (wpE defs₀ 𝒱₀ (V d c i) none) Set.univ (step (p := (V d c i).2) sC C (broadcast S16 (BitVec.ofNat 32 t.val)) u (BitVec.ofNat 32 w) (posV p) >>= k) Q) := by
  have hin : InB (broadcast S16 (BitVec.ofNat 32 t.val)) (safeV (BitVec.ofNat 32 w) (posV p)) :=
    inB_of t _ (fun x => min (p x + w) 191 - 1) (fun x => safeV_apply h1 hw x (hp x)) (fun x => by omega)
  have e : (step (p := (V d c i).2) sC C (broadcast S16 (BitVec.ofNat 32 t.val)) u (BitVec.ofNat 32 w) (posV p) >>= k)
      = Prog.op (TpuEff.assume (C.P (broadcast S16 (BitVec.ofNat 32 t.val)) (safeV (BitVec.ofNat 32 w) (posV p))) (C.dec _ _)) (fun h =>
          SparseCore.vectorLoadIdx (p := (V d c i).2) sC ![broadcast S16 (BitVec.ofNat 32 t.val), safeV (BitVec.ofNat 32 w) (posV p)] (C.inb _ _ h.down) (View.loads_vmem h_S64x192)
            >>= fun cc => k (nextV u (BitVec.ofNat 32 w) (posV p) cc)) := rfl
  rw [e, wp_assume_of _ _ _ _ (C.of _ _ hin)]
  refine (wp_gatherC d c i fc (Q := Q) t _ hin (View.loads_vmem h_S64x192) (fun cc => k (nextV u (BitVec.ofNat 32 w) (posV p) cc))).trans ?_
  have e2 : nextV u (BitVec.ofNat 32 w) (posV p) (loadIdx fc ![broadcast S16 (BitVec.ofNat 32 t.val), safeV (BitVec.ofNat 32 w) (posV p)] hin)
      = posV fun x => nextN (row fc t) (u x) w (p x) :=
    funext fun x => nextV_apply hw u _ x (hp x) (row fc t) (loadIdx_row fc t _ hin x _ (safeV_apply h1 hw x (hp x)) (by omega))
  rw [e2]

/-- A block of row `t`: the sixteen rays from `16 * b` on are written. -/
theorem wp_block (C : Fin 10 → Chk) (t : Fin 64) (v7 : IVec S16 32) (h7 : v7 = broadcast S16 (BitVec.ofNat 32 t.val)) (b : ℕ) (offu offo : Fin 2 → ℕ)
    (eu : offu = offB t.val b) (eo : offo = offB t.val b) (hu : ∀ a, offu a + S1x16.size a ≤ S64x96.size a) (ho : ∀ a, offo a + S1x16.size a ≤ S64x96.size a)
    (k : Unit → Prog (TpuEff nD τ sig (Elt F) Λ₀ (V d c i).2) α) {Q : α → sProp 𝕄} :
    iprop(((V d c i).loc cc1_scratch0 ↦{fullShare} fc) ∗ ((V d c i).loc cc1_scratch1 ↦{fullShare} fz) ∗ ((V d c i).loc cc1_scratch2 ↦{fullShare} fu)
        ∗ ((V d c i).loc cc1_scratch3 ↦{fullShare} (part fc fz fu fo (96 * t.val + 16 * b))) : sProp 𝕄)
      ⊢ iprop((iprop(((V d c i).loc cc1_scratch0 ↦{fullShare} fc) ∗ ((V d c i).loc cc1_scratch1 ↦{fullShare} fz) ∗ ((V d c i).loc cc1_scratch2 ↦{fullShare} fu)
            ∗ ((V d c i).loc cc1_scratch3 ↦{fullShare} (part fc fz fu fo (96 * t.val + 16 * (b + 1))))) -∗ wp frame (wpE defs₀ 𝒱₀ (V d c i) none) Set.univ (k ⟨⟩) Q)
        -∗ wp frame (wpE defs₀ 𝒱₀ (V d c i) none) Set.univ (block (p := (V d c i).2) sC sZ sU sO C v7 offu offo hu ho >>= k) Q) := by
  subst h7
  subst eu
  subst eo
  have e : (block (p := (V d c i).2) sC sZ sU sO C (broadcast S16 (BitVec.ofNat 32 t.val)) (offB t.val b) (offB t.val b) hu ho >>= k)
      = Prog.op (.load sU (Rect.unit (s := S64x96) (offB t.val b) S1x16.size hu).toLoadRect (View.loadsAt_vmem h_S1x16)) (fun uld =>
          step (p := (V d c i).2) sC (C 0) (broadcast S16 (BitVec.ofNat 32 t.val)) (shapeCast S16 uld shapeCasts_S1x16_S16) (BitVec.ofNat 32 128) (posV fun _ => 0) >>= fun p1 =>
          step (p := (V d c i).2) sC (C 1) (broadcast S16 (BitVec.ofNat 32 t.val)) (shapeCast S16 uld shapeCasts_S1x16_S16) (BitVec.ofNat 32 64) p1 >>= fun p2 =>
          step (p := (V d c i).2) sC (C 2) (broadcast S16 (BitVec.ofNat 32 t.val)) (shapeCast S16 uld shapeCasts_S1x16_S16) (BitVec.ofNat 32 32) p2 >>= fun p3 =>
          step (p := (V d c i).2) sC (C 3) (broadcast S16 (BitVec.ofNat 32 t.val)) (shapeCast S16 uld shapeCasts_S1x16_S16) (BitVec.ofNat 32 16) p3 >>= fun p4 =>
          step (p := (V d c i).2) sC (C 4) (broadcast S16 (BitVec.ofNat 32 t.val)) (shapeCast S16 uld shapeCasts_S1x16_S16) (BitVec.ofNat 32 8) p4 >>= fun p5 =>
          step (p := (V d c i).2) sC (C 5) (broadcast S16 (BitVec.ofNat 32 t.val)) (shapeCast S16 uld shapeCasts_S1x16_S16) (BitVec.ofNat 32 4) p5 >>= fun p6 =>
          step (p := (V d c i).2) sC (C 6) (broadcast S16 (BitVec.ofNat 32 t.val)) (shapeCast S16 uld shapeCasts_S1x16_S16) (BitVec.ofNat 32 2) p6 >>= fun p7 =>
          step (p := (V d c i).2) sC (C 7) (broadcast S16 (BitVec.ofNat 32 t.val)) (shapeCast S16 uld shapeCasts_S1x16_S16) (BitVec.ofNat 32 1) p7 >>= fun p8 =>
          Prog.op (TpuEff.assume ((C 8).P (broadcast S16 (BitVec.ofNat 32 t.val)) (maxsi (subi p8 (broadcast S16 1#32)) (broadcast S16 0#32))) ((C 8).dec _ _)) fun h9 =>
          Prog.op (TpuEff.assume ((C 9).P (broadcast S16 (BitVec.ofNat 32 t.val)) (minsi p8 (broadcast S16 190#32))) ((C 9).dec _ _)) fun h10 =>
          SparseCore.vectorLoadIdx (p := (V d c i).2) sC ![(broadcast S16 (BitVec.ofNat 32 t.val)), maxsi (subi p8 (broadcast S16 1#32)) (broadcast S16 0#32)] ((C 8).inb _ _ h9.down) (View.loads_vmem h_S64x192) >>= fun c0 =>
          SparseCore.vectorLoadIdx (p := (V d c i).2) sC ![(broadcast S16 (BitVec.ofNat 32 t.val)), minsi p8 (broadcast S16 190#32)] ((C 9).inb _ _ h10.down) (View.loads_vmem h_S64x192) >>= fun c1 =>
          SparseCore.vectorLoadIdx (p := (V d c i).2) sZ ![(broadcast S16 (BitVec.ofNat 32 t.val)), maxsi (subi p8 (broadcast S16 1#32)) (broadcast S16 0#32)] ((C 8).inb _ _ h9.down) (View.loads_vmem h_S64x192) >>= fun b0 =>
          SparseCore.vectorLoadIdx (p := (V d c i).2) sZ ![(broadcast S16 (BitVec.ofNat 32 t.val)), minsi p8 (broadcast S16 190#32)] ((C 9).inb _ _ h10.down) (View.loads_vmem h_S64x192) >>= fun b1 =>
          Prog.op (.load sO (Rect.unit (s := S64x96) (offB t.val b) S1x16.size ho).toLoadRect (View.loadsAt_vmem h_S1x16)) fun _ =>
          Prog.op (.store sO (Rect.unit (s := S64x96) (offB t.val b) S1x16.size ho) (shapeCast S1x16 (lerpV (shapeCast S16 uld shapeCasts_S1x16_S16) c0 c1 b0 b1) shapeCasts_S16_S1x16) Finset.univ (View.stores_vmem_bits_univ h_S1x16 rfl) (.inl rfl)) k) := rfl
  rw [e]
  iintro ⟨HC, HZ, HU, HO⟩ Hk
  ihave HU' := (Entails.of_eq (pts_sU (F := F) d c i fu).symm) $$ HU
  iapply (wp_load 𝒱₀ (V d c i) none Set.univ (m := sU) (S := Finset.univ) (Finset.subset_univ _)) $$ HU'; iintro HU'
  generalize hu16 : shapeCast S16 _ shapeCasts_S1x16_S16 = u
  have hq1 : ∀ x, (fun x : S16.Idx => nextN (row fc t) (u x) 128 (0)) x ≤ 191 := fun x => nextN_le (by omega)
  iapply (wp_step d c i fc (C 0) t u 128 (by omega) (by omega) (fun _ => 0) (fun _ => by omega)) $$ HC; iintro HC
  generalize eq1 : (fun x : S16.Idx => nextN (row fc t) (u x) 128 (0)) = q1 at hq1 ⊢
  have hq2 : ∀ x, (fun x : S16.Idx => nextN (row fc t) (u x) 64 (q1 x)) x ≤ 191 := fun x => nextN_le (hq1 x)
  iapply (wp_step d c i fc (C 1) t u 64 (by omega) (by omega) q1 hq1) $$ HC; iintro HC
  generalize eq2 : (fun x : S16.Idx => nextN (row fc t) (u x) 64 (q1 x)) = q2 at hq2 ⊢
  have hq3 : ∀ x, (fun x : S16.Idx => nextN (row fc t) (u x) 32 (q2 x)) x ≤ 191 := fun x => nextN_le (hq2 x)
  iapply (wp_step d c i fc (C 2) t u 32 (by omega) (by omega) q2 hq2) $$ HC; iintro HC
  generalize eq3 : (fun x : S16.Idx => nextN (row fc t) (u x) 32 (q2 x)) = q3 at hq3 ⊢
  have hq4 : ∀ x, (fun x : S16.Idx => nextN (row fc t) (u x) 16 (q3 x)) x ≤ 191 := fun x => nextN_le (hq3 x)
  iapply (wp_step d c i fc (C 3) t u 16 (by omega) (by omega) q3 hq3) $$ HC; iintro HC
  generalize eq4 : (fun x : S16.Idx => nextN (row fc t) (u x) 16 (q3 x)) = q4 at hq4 ⊢
  have hq5 : ∀ x, (fun x : S16.Idx => nextN (row fc t) (u x) 8 (q4 x)) x ≤ 191 := fun x => nextN_le (hq4 x)
  iapply (wp_step d c i fc (C 4) t u 8 (by omega) (by omega) q4 hq4) $$ HC; iintro HC
  generalize eq5 : (fun x : S16.Idx => nextN (row fc t) (u x) 8 (q4 x)) = q5 at hq5 ⊢
  have hq6 : ∀ x, (fun x : S16.Idx => nextN (row fc t) (u x) 4 (q5 x)) x ≤ 191 := fun x => nextN_le (hq5 x)
  iapply (wp_step d c i fc (C 5) t u 4 (by omega) (by omega) q5 hq5) $$ HC; iintro HC
  generalize eq6 : (fun x : S16.Idx => nextN (row fc t) (u x) 4 (q5 x)) = q6 at hq6 ⊢
  have hq7 : ∀ x, (fun x : S16.Idx => nextN (row fc t) (u x) 2 (q6 x)) x ≤ 191 := fun x => nextN_le (hq6 x)
  iapply (wp_step d c i fc (C 6) t u 2 (by omega) (by omega) q6 hq6) $$ HC; iintro HC
  generalize eq7 : (fun x : S16.Idx => nextN (row fc t) (u x) 2 (q6 x)) = q7 at hq7 ⊢
  have hq8 : ∀ x, (fun x : S16.Idx => nextN (row fc t) (u x) 1 (q7 x)) x ≤ 191 := fun x => nextN_le (hq7 x)
  iapply (wp_step d c i fc (C 7) t u 1 (by omega) (by omega) q7 hq7) $$ HC; iintro HC
  have hf : (fun x : S16.Idx => nextN (row fc t) (u x) 1 (q7 x)) = fun x => findN (row fc t) (u x) := by
    subst eq7; subst eq6; subst eq5; subst eq4; subst eq3; subst eq2; subst eq1; rfl
  rw [hf]
  have hbl : ∀ x, maxsi (subi (posV fun x => findN (row fc t) (u x)) (broadcast S16 1#32)) (broadcast S16 0#32) x
      = BitVec.ofNat 32 (findN (row fc t) (u x) - 1) := fun x => pred_word (a := findN (row fc t) (u x)) (by have := findN_le (row fc t) (u x); omega)
  have hab : ∀ x, minsi (posV fun x => findN (row fc t) (u x)) (broadcast S16 190#32) x
      = BitVec.ofNat 32 (min (findN (row fc t) (u x)) 190) := fun x => min_word (a := findN (row fc t) (u x)) (b := 190) (by have := findN_le (row fc t) (u x); omega) (by omega)
  have hbl' : ∀ x, findN (row fc t) (u x) - 1 < 192 := fun x => by have := findN_le (row fc t) (u x); omega
  have hab' : ∀ x, min (findN (row fc t) (u x)) 190 < 192 := fun x => by omega
  have ib := inB_of t _ _ hbl hbl'
  have ia := inB_of t _ _ hab hab'
  rw [wp_assume_of _ _ _ _ ((C 8).of _ _ ib), wp_assume_of _ _ _ _ ((C 9).of _ _ ia)]
  iapply (wp_gatherC d c i fc t _ ib (View.loads_vmem h_S64x192)) $$ HC; iintro HC
  iapply (wp_gatherC d c i fc t _ ia (View.loads_vmem h_S64x192)) $$ HC; iintro HC
  iapply (wp_gatherZ d c i fz t _ ib (View.loads_vmem h_S64x192)) $$ HZ; iintro HZ
  iapply (wp_gatherZ d c i fz t _ ia (View.loads_vmem h_S64x192)) $$ HZ; iintro HZ
  ihave HO' := (Entails.of_eq (pts_sO (F := F) d c i _).symm) $$ HO
  iapply (wp_load 𝒱₀ (V d c i) none Set.univ (m := sO) (S := Finset.univ) (Finset.subset_univ _)) $$ HO'; iintro HO'
  ihave HO := (Entails.of_eq ((pts_sO (F := F) d c i _).trans (pts_sO_access (F := F) d c i (Rect.unit (s := S64x96) (offB t.val b) S1x16.size ho) _).symm)) $$ HO'
  iapply (wp_store 𝒱₀ (V d c i) none Set.univ (m := sO) (r := Rect.unit (s := S64x96) (offB t.val b) S1x16.size ho) (Mk := Finset.univ) (S := Finset.univ) (Finset.subset_univ _)) $$ HO; iintro HO
  rw [store_part fc fz fu fo t b _ rfl ho _ ?hw]
  case hw =>
    intro x
    show lerpV u _ _ _ _ (Shape.reshapeEquiv shapeCasts_S16_S1x16 x) = _
    generalize hy : Shape.reshapeEquiv shapeCasts_S16_S1x16 x = y
    show lerpN (u y) _ _ _ _ = _
    rw [loadIdx_row fc t _ ib y _ (hbl y) (hbl' y), loadIdx_row fc t _ ia y _ (hab y) (hab' y),
      loadIdx_row fz t _ ib y _ (hbl y) (hbl' y), loadIdx_row fz t _ ia y _ (hab y) (hab' y)]
    have ht : ((Rect.unit (s := S64x96) (offB t.val b) S1x16.size ho).toLoadRect.idx x) 0 = t := by
      apply Fin.ext
      have : (x 0).val < 1 := (x 0).isLt
      show t.val + 1 * (x 0).val = t.val
      omega
    have huy : u y = fu ((Rect.unit (s := S64x96) (offB t.val b) S1x16.size ho).toLoadRect.idx x) := by
      rw [← hu16, ← hy]
      show (View.readAt (Elt F) sU.view (Rect.unit (s := S64x96) (offB t.val b) S1x16.size hu).toLoadRect fu : S1x16.Idx → F .f32) (Shape.reshapeEquiv shapeCasts_S1x16_S16 (Shape.reshapeEquiv shapeCasts_S16_S1x16 x)) = _
      rw [Shape.reshapeEquiv_reshapeEquiv, Shape.reshapeEquiv_self]
      rfl
    show _ = ray (row fc _) (row fz _) (fu _)
    rw [ht, ← huy]
    rfl
  iapply Hk
  isplitl [HC]; · iexact HC
  isplitl [HZ]; · iexact HZ
  isplitl [HU']; · iexact HU'
  iexact HO

/-! ## One row -/

/-- The inner loop's word at trip `t`. -/
theorem iv_t (t : Fin k1_t2_loop.trips) : (Scf.iv 0#32 1#32 t : BitVec 32) = BitVec.ofNat 32 t.val := by
  revert t; decide +kernel

theorem off3_eq (t : Fin k1_t2_loop.trips) : k1_off3 t = offB t.val 0 := by revert t; decide +kernel
theorem off4_eq (t : Fin k1_t2_loop.trips) : k1_off4 t = offB t.val 0 := by revert t; decide +kernel
theorem off5_eq (t : Fin k1_t2_loop.trips) : k1_off5 t = offB t.val 1 := by revert t; decide +kernel
theorem off6_eq (t : Fin k1_t2_loop.trips) : k1_off6 t = offB t.val 1 := by revert t; decide +kernel
theorem off7_eq (t : Fin k1_t2_loop.trips) : k1_off7 t = offB t.val 2 := by revert t; decide +kernel
theorem off8_eq (t : Fin k1_t2_loop.trips) : k1_off8 t = offB t.val 2 := by revert t; decide +kernel
theorem off9_eq (t : Fin k1_t2_loop.trips) : k1_off9 t = offB t.val 3 := by revert t; decide +kernel
theorem off10_eq (t : Fin k1_t2_loop.trips) : k1_off10 t = offB t.val 3 := by revert t; decide +kernel
theorem off11_eq (t : Fin k1_t2_loop.trips) : k1_off11 t = offB t.val 4 := by revert t; decide +kernel
theorem off12_eq (t : Fin k1_t2_loop.trips) : k1_off12 t = offB t.val 4 := by revert t; decide +kernel
theorem off13_eq (t : Fin k1_t2_loop.trips) : k1_off13 t = offB t.val 5 := by revert t; decide +kernel
theorem off14_eq (t : Fin k1_t2_loop.trips) : k1_off14 t = offB t.val 5 := by revert t; decide +kernel

end Cert.Proof.Ray
-- ==== Proof.Row.lean ====
/-
  The run of one row of a chunk, its six blocks, and of the 64 rows: the scratch array of results ends holding every
  ray's value.
-/
module

public import proofs.«01_k».proof.Proof.BlockRun
public import Idealize.ShloMosaic.Lib.Scf

@[expose] public section

noncomputable section

namespace Cert.Proof.Ray

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The SparseCore and the tile of a point of the grid. -/
abbrev cV (L : grid1.Coords) : Fin τ.nSC := (L 0).castLE hcore1
abbrev jV (L : grid1.Coords) : Fin τ.nSub := (L 1).castLE hsub1

variable (fc fz : S64x192.Idx → F .f32) (fu fo : S64x96.Idx → F .f32)

/-- A tile's four scratch arrays, the array of results with its first `n` rays at their values. -/
def scr (n : ℕ) : sProp 𝕄 :=
  iprop(((V d (cV L) (jV L)).loc cc1_scratch0 ↦{fullShare} fc) ∗ ((V d (cV L) (jV L)).loc cc1_scratch1 ↦{fullShare} fz) ∗ ((V d (cV L) (jV L)).loc cc1_scratch2 ↦{fullShare} fu)
    ∗ ((V d (cV L) (jV L)).loc cc1_scratch3 ↦{fullShare} (part fc fz fu fo n)))

/-- A block, in terms of `scr`. -/
theorem wp_block' (C : Fin 10 → Chk) (t : Fin 64) (v7 : IVec S16 32) (h7 : v7 = broadcast S16 (BitVec.ofNat 32 t.val)) (b : ℕ) (offu offo : Fin 2 → ℕ)
    (eu : offu = offB t.val b) (eo : offo = offB t.val b) (hu : ∀ a, offu a + S1x16.size a ≤ S64x96.size a) (ho : ∀ a, offo a + S1x16.size a ≤ S64x96.size a)
    {α : Type} (k : Unit → Prog (TpuEff nD τ sig (Elt F) Λ₀ (V d (cV L) (jV L)).2) α) {Q : α → sProp 𝕄} :
    (scr d L fc fz fu fo (96 * t.val + 16 * b) : sProp 𝕄)
      ⊢ iprop((scr d L fc fz fu fo (96 * t.val + 16 * (b + 1)) -∗ wp frame (wpE defs₀ 𝒱₀ (V d (cV L) (jV L)) none) Set.univ (k ⟨⟩) Q)
        -∗ wp frame (wpE defs₀ 𝒱₀ (V d (cV L) (jV L)) none) Set.univ (block (p := (V d (cV L) (jV L)).2) sC sZ sU sO C v7 offu offo hu ho >>= k) Q) :=
  wp_block d (cV L) (jV L) fc fz fu fo C t v7 h7 b offu offo eu eo hu ho k

/-- The body of the inner loop as the program calls it on a tile's scratch arrays. -/
abbrev rowBody (t : Fin k1_t2_loop.trips) (x : Unit) : Prog (TpuEff nD τ sig (Elt F) Λ₀ (V d (cV L) (jV L)).2) Unit :=
  k1_t2_body (F := F) L cdfV (Memref.isWhole_whole _) midV (Memref.isWhole_whole _) uniV (Memref.isWhole_whole _) outV (Memref.isWhole_whole _)
    sC (Memref.isWhole_whole _) sZ (Memref.isWhole_whole _) sU (Memref.isWhole_whole _) sO (Memref.isWhole_whole _) cc1_scoped0 cc1_scoped1 cc1_scoped2 cc1_scoped3 t x

/-- One row: its ninety-six rays are written. -/
theorem wp_row (t : Fin k1_t2_loop.trips) (x : Unit) :
    (scr d L fc fz fu fo (96 * t.val) : sProp 𝕄)
      ⊢ wp frame (wpE defs₀ 𝒱₀ (V d (cV L) (jV L)) none) Set.univ (rowBody (F := F) d L t x) fun _ => scr d L fc fz fu fo (96 * (t.val + 1)) := by
  have h7 : broadcast S16 (Scf.iv 0#32 1#32 t : BitVec 32) = broadcast S16 (BitVec.ofNat 32 t.val) := by rw [iv_t]
  unfold rowBody
  rw [t2_body_eq]
  iintro H
  iapply (wp_block' d L fc fz fu fo chk0 t _ h7 0 _ _ (off3_eq t) (off4_eq t) (k1_off3_inb t) (k1_off4_inb t)) $$ H; iintro H
  iapply (wp_block' d L fc fz fu fo chk1 t _ h7 1 _ _ (off5_eq t) (off6_eq t) (k1_off5_inb t) (k1_off6_inb t)) $$ H; iintro H
  iapply (wp_block' d L fc fz fu fo chk2 t _ h7 2 _ _ (off7_eq t) (off8_eq t) (k1_off7_inb t) (k1_off8_inb t)) $$ H; iintro H
  iapply (wp_block' d L fc fz fu fo chk3 t _ h7 3 _ _ (off9_eq t) (off10_eq t) (k1_off9_inb t) (k1_off10_inb t)) $$ H; iintro H
  iapply (wp_block' d L fc fz fu fo chk4 t _ h7 4 _ _ (off11_eq t) (off12_eq t) (k1_off11_inb t) (k1_off12_inb t)) $$ H; iintro H
  iapply (wp_block' d L fc fz fu fo chk5 t _ h7 5 _ _ (off13_eq t) (off14_eq t) (k1_off13_inb t) (k1_off14_inb t)) $$ H; iintro H
  rw [show 96 * (t.val + 1) = 96 * t.val + 16 * (5 + 1) by omega]
  sl_step
  iexact H

/-- The 64 rows at the head of a program: the scratch array of results ends at every ray's value. -/
theorem wp_rows {α : Type} (k : Unit → Prog (TpuEff nD τ sig (Elt F) Λ₀ (V d (cV L) (jV L)).2) α) {Q : α → sProp 𝕄} :
    iprop(((V d (cV L) (jV L)).loc cc1_scratch0 ↦{fullShare} fc) ∗ ((V d (cV L) (jV L)).loc cc1_scratch1 ↦{fullShare} fz) ∗ ((V d (cV L) (jV L)).loc cc1_scratch2 ↦{fullShare} fu)
        ∗ ((V d (cV L) (jV L)).loc cc1_scratch3 ↦{fullShare} fo) : sProp 𝕄)
      ⊢ iprop((iprop(((V d (cV L) (jV L)).loc cc1_scratch0 ↦{fullShare} fc) ∗ ((V d (cV L) (jV L)).loc cc1_scratch1 ↦{fullShare} fz) ∗ ((V d (cV L) (jV L)).loc cc1_scratch2 ↦{fullShare} fu)
            ∗ ((V d (cV L) (jV L)).loc cc1_scratch3 ↦{fullShare} (rays fc fz fu))) -∗ wp frame (wpE defs₀ 𝒱₀ (V d (cV L) (jV L)) none) Set.univ (k ⟨⟩) Q)
        -∗ wp frame (wpE defs₀ 𝒱₀ (V d (cV L) (jV L)) none) Set.univ
          (Scf.Loop.for k1_t2_loop k1_t2_ok ⟨⟩ (rowBody (F := F) d L) >>= k) Q) := by
  have h0 := Scf.wp_for_bind frame (wpE (defs₀ (F := F)) 𝒱₀ (V d (cV L) (jV L)) none) Set.univ _ _ _ k1_t2_ok (⟨⟩ : Unit) (rowBody (F := F) d L)
    (fun n _ => scr d L fc fz fu fo (96 * n)) (fun t x => wp_row d L fc fz fu fo t x) (kk := k) (Q := Q)
  have e : (Scf.trips k1_t2_loop.lb k1_t2_loop.ub k1_t2_loop.st) = 64 := by decide +kernel
  have e0 : (scr d L fc fz fu fo (96 * 0) : sProp 𝕄)
      = iprop(((V d (cV L) (jV L)).loc cc1_scratch0 ↦{fullShare} fc) ∗ ((V d (cV L) (jV L)).loc cc1_scratch1 ↦{fullShare} fz) ∗ ((V d (cV L) (jV L)).loc cc1_scratch2 ↦{fullShare} fu)
        ∗ ((V d (cV L) (jV L)).loc cc1_scratch3 ↦{fullShare} fo)) := by
    unfold scr; rw [Nat.mul_zero, part_zero]
  have e1 : (scr d L fc fz fu fo (96 * 64) : sProp 𝕄)
      = iprop(((V d (cV L) (jV L)).loc cc1_scratch0 ↦{fullShare} fc) ∗ ((V d (cV L) (jV L)).loc cc1_scratch1 ↦{fullShare} fz) ∗ ((V d (cV L) (jV L)).loc cc1_scratch2 ↦{fullShare} fu)
        ∗ ((V d (cV L) (jV L)).loc cc1_scratch3 ↦{fullShare} (rays fc fz fu))) := by
    unfold scr; rw [show 96 * 64 = 6144 from rfl, part_all]
  rw [← e0, ← e1]
  iintro H Hk
  iapply h0 $$ H
  iintro %acc H
  rw [e]
  iapply Hk; iexact H

end Cert.Proof.Ray
-- ==== Proof.Chunk.lean ====
/-
  One chunk of 64 rows on a tile: the rows of edges, of midpoints and of uniform numbers copied in, the rays computed, the
  results copied out.
-/
module

public import proofs.«01_k».proof.Proof.Row
public import Idealize.ShloMosaic.Lib.SparseCore.Quiescent
public import Idealize.ShloMosaic.Lib.SparseCore.Ops
public import Idealize.ShloMosaic.Lib.Tactic

@[expose] public section

noncomputable section

namespace Cert.Proof.Ray

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The arrays -/

abbrev cdfLoc (d : Dev nD) : Loc nD τ sig := (SparseCore.T d).loc main_v0_0
abbrev midLoc (d : Dev nD) : Loc nD τ sig := (SparseCore.T d).loc main_v0_1
abbrev uniLoc (d : Dev nD) : Loc nD τ sig := (SparseCore.T d).loc main_arg4
abbrev outLoc (d : Dev nD) : Loc nD τ sig := (SparseCore.T d).loc main_v1

/-- Every ray's value, from the arrays of edges, of midpoints and of uniform numbers. -/
def outs (gc gz : S65536x192.Idx → F .f32) (gu : S65536x96.Idx → F .f32) : S65536x96.Idx → F .f32 :=
  fun x => ray (fun k => gc (ix2 (x 0) k)) (fun k => gz (ix2 (x 0) k)) (gu x)

/-- The rows of chunk `t` of a tile, in an array of edges or midpoints and in one of uniform numbers or results. -/
abbrev wide (L : grid1.Coords) (t : Fin k1_t1_loop.trips) : Rect S65536x192 := Rect.unit (s := S65536x192) (k1_off1 L t) S64x192.size (k1_off1_inb L t)
abbrev slim (L : grid1.Coords) (t : Fin k1_t1_loop.trips) : Rect S65536x96 := Rect.unit (s := S65536x96) (k1_off2 L t) S64x96.size (k1_off2_inb L t)
abbrev cdfK (L : grid1.Coords) (t : Fin k1_t1_loop.trips) : Memref sig .scVector .hbm S64x192 .f32 := cdfV.slice (wide L t) (fun _ => rfl)
abbrev midK (L : grid1.Coords) (t : Fin k1_t1_loop.trips) : Memref sig .scVector .hbm S64x192 .f32 := midV.slice (wide L t) (fun _ => rfl)
abbrev uniK (L : grid1.Coords) (t : Fin k1_t1_loop.trips) : Memref sig .scVector .hbm S64x96 .f32 := uniV.slice (slim L t) (fun _ => rfl)
abbrev outK (L : grid1.Coords) (t : Fin k1_t1_loop.trips) : Memref sig .scVector .hbm S64x96 .f32 := outV.slice (slim L t) (fun _ => rfl)

abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)
abbrev cell3 : GSem nD τ sig := (V d (cV L) (jV L), .dma cc1_scoped3.sem)

/-- The body of the outer loop as the program calls it on a tile's scratch arrays. -/
abbrev chunkBody (t : Fin k1_t1_loop.trips) (x : Unit) : Prog (TpuEff nD τ sig (Elt F) Λ₀ (V d (cV L) (jV L)).2) Unit :=
  k1_t1_body (F := F) L cdfV (Memref.isWhole_whole _) midV (Memref.isWhole_whole _) uniV (Memref.isWhole_whole _) outV (Memref.isWhole_whole _)
    sC (Memref.isWhole_whole _) sZ (Memref.isWhole_whole _) sU (Memref.isWhole_whole _) sO (Memref.isWhole_whole _) cc1_scoped0 cc1_scoped1 cc1_scoped2 cc1_scoped3 t x

variable (gc gz : S65536x192.Idx → F .f32) (gu : S65536x96.Idx → F .f32) (q : PosShare TreeShare)

/-- What a tile holds all along: its shares of the arrays it reads, its scratch arrays at some contents, its four
    semaphores at zero, and the record of its waits. -/
def tileHeld (O : CellTallies nD τ sig (HIx 1)) (W : Waits sig (HIx 1)) : sProp 𝕄 :=
  iprop((cdfLoc d ↦{q} gc) ∗ (midLoc d ↦{q} gz) ∗ (uniLoc d ↦{q} gu)
    ∗ (∃ f, (V d (cV L) (jV L)).loc cc1_scratch0 ↦{fullShare} f) ∗ (∃ f, (V d (cV L) (jV L)).loc cc1_scratch1 ↦{fullShare} f)
    ∗ (∃ f, (V d (cV L) (jV L)).loc cc1_scratch2 ↦{fullShare} f) ∗ (∃ f, (V d (cV L) (jV L)).loc cc1_scratch3 ↦{fullShare} f)
    ∗ semVal (cell0 d L) 0 ∗ semVal (cell1 d L) 0 ∗ semVal (cell2 d L) 0 ∗ semVal (cell3 d L) 0
    ∗ ∃ W', ⌜∀ p ∈ W', p ∈ W ∨ p.2 = none⌝ ∗ owes (V d (cV L) (jV L)) O W')

/-- The rows of a chunk, of an array of edges or midpoints; and of one of uniform numbers. -/
def chunkC (L : grid1.Coords) (g : S65536x192.Idx → F .f32) (t : Fin k1_t1_loop.trips) : S64x192.Idx → F .f32 := fun x => g ((wide L t).toLoadRect.idx x)
def chunkU (L : grid1.Coords) (g : S65536x96.Idx → F .f32) (t : Fin k1_t1_loop.trips) : S64x96.Idx → F .f32 := fun x => g ((slim L t).toLoadRect.idx x)

/-- A scratch array that a copy has filled holds what was copied. -/
theorem pts_write_sC (f g w : S64x192.Idx → F .f32) (h : w = g) :
    ((sC).view.loc (V d (cV L) (jV L)) ↦{fullShare} View.write (Elt F) (sC).view f w Finset.univ : sProp 𝕄)
      = ((V d (cV L) (jV L)).loc cc1_scratch0 ↦{fullShare} g) := by
  subst h; rw [View.write_whole_univ]
theorem pts_write_sZ (f g w : S64x192.Idx → F .f32) (h : w = g) :
    ((sZ).view.loc (V d (cV L) (jV L)) ↦{fullShare} View.write (Elt F) (sZ).view f w Finset.univ : sProp 𝕄)
      = ((V d (cV L) (jV L)).loc cc1_scratch1 ↦{fullShare} g) := by
  subst h; rw [View.write_whole_univ]
theorem pts_write_sU (f g w : S64x96.Idx → F .f32) (h : w = g) :
    ((sU).view.loc (V d (cV L) (jV L)) ↦{fullShare} View.write (Elt F) (sU).view f w Finset.univ : sProp 𝕄)
      = ((V d (cV L) (jV L)).loc cc1_scratch2 ↦{fullShare} g) := by
  subst h; rw [View.write_whole_univ]

/-- The rays of a chunk's rows are the chunk's rows of the rays. -/
theorem rays_chunk (t : Fin k1_t1_loop.trips) (x : S64x96.Idx) :
    rays (chunkC L gc t) (chunkC L gz t) (chunkU L gu t) x = outs gc gz gu ((slim L t).toLoadRect.idx x) := by
  have h : ∀ k : Fin 192, (wide L t).toLoadRect.idx (ix2 (x 0) k) = ix2 (((slim L t).toLoadRect.idx x) 0) k := by
    intro k
    refine (eq_ix2 _).trans ?_
    congr 1
    apply Fin.ext
    show k1_off1 L t 1 + 1 * k.val = k.val
    rw [k1_off1_eq]; simp
  unfold rays outs row chunkC
  simp only [h]
  rfl

/-- The chunk's rows of the results, once the rays are copied out. -/
theorem pts_out (t : Fin k1_t1_loop.trips) (fo : S65536x96.Idx → F .f32) (w : S64x96.Idx → F .f32)
    (h : w = rays (chunkC L gc t) (chunkC L gz t) (chunkU L gu t)) :
    ((outK L t).view.loc (V d (cV L) (jV L)) ↦[(outK L t).view.set]{fullShare} (outK L t).view.writes (Elt F) fo [⟨Rect.whole S64x96, w⟩] : sProp 𝕄)
      = (outLoc d ↦[(outK L t).view.set]{fullShare} outs gc gz gu) := by
  refine pointsTo_congr fun y hy => ?_
  obtain ⟨x, -, rfl⟩ := Finset.mem_map.mp hy
  have e := View.read_writes_cons_emb (Val := Elt F) (outK L t).view fo (Rect.whole S64x96) w [] x
  rw [Rect.emb_whole_apply] at e
  refine e.trans ?_
  rw [h, rays_chunk]
  rfl

set_option maxHeartbeats 4000000 in
/-- One chunk: its rows of the results end at the rays' values. -/
theorem wp_chunk (hF : (K (F := F)).Facts) (O : CellTallies nD τ sig (HIx 1)) (W : Waits sig (HIx 1)) (hO : ∀ g, O g none = 0)
    (t : Fin k1_t1_loop.trips) (x : Unit) (fo : S65536x96.Idx → F .f32) :
    iprop(levAts (K (F := F)).L (K (F := F)).lev ∗ tileHeld d L gc gz gu q O W ∗ (outLoc d ↦[(outK L t).view.set]{fullShare} fo))
      ⊢ wp frame (wpE (defs₀ (F := F)) 𝒱₀ (V d (cV L) (jV L)) none) Set.univ (chunkBody (F := F) d L t x)
          fun _ => iprop(levAts (K (F := F)).L (K (F := F)).lev ∗ tileHeld d L gc gz gu q O W ∗ (outLoc d ↦[(outK L t).view.set]{fullShare} outs gc gz gu)) := by
  unfold tileHeld chunkBody k1_t1_body
  iintro ⟨#Hlv, ⟨Hc, Hz, Hu, ⟨%f0, H0⟩, ⟨%f1, H1⟩, ⟨%f2, H2⟩, ⟨%f3, H3⟩, S0, S1, S2, S3, %W', %hW', HO⟩, Hout⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hc := (Entails.of_eq (show (cdfLoc d ↦{q} gc : sProp 𝕄) = ((cdfV).view.loc (V d (cV L) (jV L)) ↦{q} gc) from rfl)) $$ Hc
  ihave Hz := (Entails.of_eq (show (midLoc d ↦{q} gz : sProp 𝕄) = ((midV).view.loc (V d (cV L) (jV L)) ↦{q} gz) from rfl)) $$ Hz
  ihave Hu := (Entails.of_eq (show (uniLoc d ↦{q} gu : sProp 𝕄) = ((uniV).view.loc (V d (cV L) (jV L)) ↦{q} gu) from rfl)) $$ Hu
  ihave H0 := (Entails.of_eq (show ((V d (cV L) (jV L)).loc cc1_scratch0 ↦{fullShare} f0 : sProp 𝕄) = ((sC).view.loc (V d (cV L) (jV L)) ↦{fullShare} f0) from rfl)) $$ H0
  ihave H1 := (Entails.of_eq (show ((V d (cV L) (jV L)).loc cc1_scratch1 ↦{fullShare} f1 : sProp 𝕄) = ((sZ).view.loc (V d (cV L) (jV L)) ↦{fullShare} f1) from rfl)) $$ H1
  ihave H2 := (Entails.of_eq (show ((V d (cV L) (jV L)).loc cc1_scratch2 ↦{fullShare} f2 : sProp 𝕄) = ((sU).view.loc (V d (cV L) (jV L)) ↦{fullShare} f2) from rfl)) $$ H2
  sl_exec
  -- the scratch arrays hold the chunk's rows: the rays
  iapply (wp_rows (F := F) d L (chunkC L gc t) (chunkC L gz t) (chunkU L gu t) f3) $$ [H0 H1 H2 H3]
  · isplitl [H0]; · iapply (Entails.of_eq (pts_write_sC d L f0 _ (wp_chunk.sl.dma0 L gc t) (by unfold wp_chunk.sl.dma0; rfl))); iexact H0
    isplitl [H1]; · iapply (Entails.of_eq (pts_write_sZ d L f1 _ (wp_chunk.sl.dma0_1 L gz t) (by unfold wp_chunk.sl.dma0_1; rfl))); iexact H1
    isplitl [H2]; · iapply (Entails.of_eq (pts_write_sU d L f2 _ (wp_chunk.sl.dma0_2 L gu t) (by unfold wp_chunk.sl.dma0_2; rfl))); iexact H2
    iexact H3
  iintro ⟨H0, H1, H2, H3⟩
  ihave H3 := (Entails.of_eq (show ((V d (cV L) (jV L)).loc cc1_scratch3 ↦{fullShare} _ : sProp 𝕄) = ((sO).view.loc (V d (cV L) (jV L)) ↦{fullShare} _) from rfl)) $$ H3
  ihave Hout := (Entails.of_eq (show (outLoc d ↦[(outK L t).view.set]{fullShare} fo : sProp 𝕄)
    = ((outK L t).view.loc (V d (cV L) (jV L)) ↦[(outK L t).view.set]{fullShare} fo) from rfl)) $$ Hout
  sl_exec
  sl_step
  isplitr; · iexact Hlv
  isplitr [Hout]
  · isplitl [Hc]; · iexact Hc
    isplitl [Hz]; · iexact Hz
    isplitl [Hu]; · iexact Hu
    isplitl [H0]; · iexists _; iexact H0
    isplitl [H1]; · iexists _; iexact H1
    isplitl [H2]; · iexists _; iexact H2
    isplitl [H3]; · iexists _; iexact H3
    isplitl [S0]; · iexact S0
    isplitl [S1]; · iexact S1
    isplitl [S2]; · iexact S2
    isplitl [S3]; · iexact S3
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · iapply (Entails.of_eq (pts_out d L gc gz gu t fo (wp_chunk.sl.dma0_3 L gc gz gu t) (by unfold wp_chunk.sl.dma0_3; rfl))); iexact Hout

end Cert.Proof.Ray
-- ==== Proof.Tile.lean ====
/-
  A tile's task: its 32 chunks one after the other, from the tile's shares of the arrays it reads and its rows of the
  results; what the call's handshakes carry; the obligation of the launch for the tile.
-/
module

public import proofs.«01_k».proof.Proof.Chunk

@[expose] public section

noncomputable section

namespace Cert.Proof.Ray

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chunks of a tile -/

section Loop

variable (d : Dev nD) (L : grid1.Coords)
variable (gc gz : S65536x192.Idx → F .f32) (gu fo : S65536x96.Idx → F .f32) (q : PosShare TreeShare)

/-- A tile's rows of the results, its first `n` chunks at the rays' values. -/
def outRows (n : ℕ) : sProp 𝕄 :=
  bigSep Finset.univ fun t : Fin k1_t1_loop.trips => outLoc d ↦[(outK L t).view.set]{fullShare} (if t.val < n then outs gc gz gu else fo)

theorem outRows_zero : (outRows d L gc gz gu fo 0 : sProp 𝕄) = bigSep Finset.univ fun t : Fin k1_t1_loop.trips => outLoc d ↦[(outK L t).view.set]{fullShare} fo :=
  bigSep_congr fun t _ => by rw [if_neg (by omega)]

theorem outRows_all : (outRows d L gc gz gu fo k1_t1_loop.trips : sProp 𝕄)
    = bigSep Finset.univ fun t : Fin k1_t1_loop.trips => outLoc d ↦[(outK L t).view.set]{fullShare} outs gc gz gu :=
  bigSep_congr fun t _ => by rw [if_pos t.isLt]

/-- Before chunk `t` its rows are as launched and the others as `outRows` says; -/
theorem outRows_at (t : Fin k1_t1_loop.trips) : (outRows d L gc gz gu fo t.val : sProp 𝕄)
    = iprop((outLoc d ↦[(outK L t).view.set]{fullShare} fo)
        ∗ bigSep (Finset.univ.erase t) fun t' : Fin k1_t1_loop.trips => outLoc d ↦[(outK L t').view.set]{fullShare} (if t'.val < t.val then outs gc gz gu else fo)) := by
  unfold outRows
  rw [SparseCore.bigSep_erase' (Finset.mem_univ t), if_neg (lt_irrefl _)]

/-- after it they are at the rays' values, the others as before. -/
theorem outRows_next (t : Fin k1_t1_loop.trips) : (outRows d L gc gz gu fo (t.val + 1) : sProp 𝕄)
    = iprop((outLoc d ↦[(outK L t).view.set]{fullShare} outs gc gz gu)
        ∗ bigSep (Finset.univ.erase t) fun t' : Fin k1_t1_loop.trips => outLoc d ↦[(outK L t').view.set]{fullShare} (if t'.val < t.val then outs gc gz gu else fo)) := by
  unfold outRows
  rw [SparseCore.bigSep_erase' (Finset.mem_univ t), if_pos (Nat.lt_succ_self _)]
  congr 1
  refine bigSep_congr fun t' ht' => ?_
  have hne : t'.val ≠ t.val := fun e => (Finset.mem_erase.mp ht').1 (Fin.ext e)
  by_cases h : t'.val < t.val
  · rw [if_pos h, if_pos (by omega)]
  · rw [if_neg h, if_neg (by omega)]

/-- The 32 chunks at the head of a program. -/
theorem wp_chunks (hF : (K (F := F)).Facts) (O : CellTallies nD τ sig (HIx 1)) (W : Waits sig (HIx 1)) (hO : ∀ g, O g none = 0)
    {α : Type} (k : Unit → Prog (TpuEff nD τ sig (Elt F) Λ₀ (V d (cV L) (jV L)).2) α) {Q : α → sProp 𝕄} :
    iprop(levAts (K (F := F)).L (K (F := F)).lev ∗ tileHeld d L gc gz gu q O W
        ∗ bigSep Finset.univ fun t : Fin k1_t1_loop.trips => outLoc d ↦[(outK L t).view.set]{fullShare} fo)
      ⊢ iprop((iprop(tileHeld d L gc gz gu q O W
            ∗ bigSep Finset.univ fun t : Fin k1_t1_loop.trips => outLoc d ↦[(outK L t).view.set]{fullShare} outs gc gz gu)
          -∗ wp frame (wpE defs₀ 𝒱₀ (V d (cV L) (jV L)) none) Set.univ (k ⟨⟩) Q)
        -∗ wp frame (wpE defs₀ 𝒱₀ (V d (cV L) (jV L)) none) Set.univ (Scf.Loop.for k1_t1_loop k1_t1_ok ⟨⟩ (chunkBody (F := F) d L) >>= k) Q) := by
  have h0 := Scf.wp_for_bind frame (wpE (defs₀ (F := F)) 𝒱₀ (V d (cV L) (jV L)) none) Set.univ _ _ _ k1_t1_ok (⟨⟩ : Unit) (chunkBody (F := F) d L)
    (fun n _ => iprop(levAts (K (F := F)).L (K (F := F)).lev ∗ tileHeld d L gc gz gu q O W ∗ outRows d L gc gz gu fo n)) (fun t x => by
      rw [outRows_at, outRows_next]
      iintro ⟨#Hlv, Hh, Ho, Hr⟩
      iapply (wp_wand_r _ _ _)
      isplitr [Hr]
      · iapply (wp_chunk d L gc gz gu q hF O W hO t x fo)
        isplitr; · iexact Hlv
        isplitl [Hh]; · iexact Hh
        iexact Ho
      · iintro %_ ⟨-, Hh, Ho⟩
        isplitr; · iexact Hlv
        isplitl [Hh]; · iexact Hh
        isplitl [Ho]; · iexact Ho
        iexact Hr) (kk := k) (Q := Q)
  rw [← outRows_zero d L gc gz gu fo, ← outRows_all d L gc gz gu fo]
  iintro H Hk
  iapply h0 $$ H
  iintro %acc ⟨-, Hh, Ho⟩
  iapply Hk
  isplitl [Hh]; · iexact Hh
  iexact Ho

/-! ## The tile's own memory -/

theorem ownSems0_V :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L)) fun g => semVal g 0) := by
  have m0 := (mem_ownCells (g := cell0 d L)).mpr ⟨rfl, by show (SemLoc.dma cc1_scoped0.sem : SemLoc sig).isScoped .scVector = true; decide⟩
  have m1 := (mem_ownCells (g := cell1 d L)).mpr ⟨rfl, by show (SemLoc.dma cc1_scoped1.sem : SemLoc sig).isScoped .scVector = true; decide⟩
  have m2 := (mem_ownCells (g := cell2 d L)).mpr ⟨rfl, by show (SemLoc.dma cc1_scoped2.sem : SemLoc sig).isScoped .scVector = true; decide⟩
  have m3 := (mem_ownCells (g := cell3 d L)).mpr ⟨rfl, by show (SemLoc.dma cc1_scoped3.sem : SemLoc sig).isScoped .scVector = true; decide⟩
  have n {a b : SemLoc sig} (h : a ≠ b) : ((V d (cV L) (jV L), a) : GSem nD τ sig) ≠ (V d (cV L) (jV L), b) := fun e => h (Prod.ext_iff.mp e).2
  unfold SparseCore.Cfg.ownSems0
  rw [SparseCore.bigSep_erase' m0,
    SparseCore.bigSep_erase' (Finset.mem_erase.mpr ⟨n (by decide), m1⟩),
    SparseCore.bigSep_erase' (Finset.mem_erase.mpr ⟨n (by decide), Finset.mem_erase.mpr ⟨n (by decide), m2⟩⟩),
    SparseCore.bigSep_erase' (Finset.mem_erase.mpr ⟨n (by decide), Finset.mem_erase.mpr ⟨n (by decide), Finset.mem_erase.mpr ⟨n (by decide), m3⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have mm (r : Ref sig .scVector) (h : ((Proc.scVector (cV L) (jV L)).devRef r).owner = _) := SparseCore.Cfg.mem_ownRefs_of_owner (p := Proc.scVector (cV L) (jV L))
    (b := (Proc.scVector (cV L) (jV L)).devRef r) h
  have n {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (mm cc1_scratch0 rfl)).trans ?_
  rw [SparseCore.bigSep_erase' (Finset.mem_erase.mpr ⟨n (by decide), mm cc1_scratch1 rfl⟩),
    SparseCore.bigSep_erase' (Finset.mem_erase.mpr ⟨n (by decide), Finset.mem_erase.mpr ⟨n (by decide), mm cc1_scratch2 rfl⟩⟩),
    SparseCore.bigSep_erase' (Finset.mem_erase.mpr ⟨n (by decide), Finset.mem_erase.mpr ⟨n (by decide), Finset.mem_erase.mpr ⟨n (by decide), mm cc1_scratch3 rfl⟩⟩⟩)]

/-! ## The task -/

/-- What the task needs of the arrays: a share of the edges, of the midpoints and of the uniform numbers, and its rows of
    the results at `f`. -/
def taskPts (f : S65536x96.Idx → F .f32) : sProp 𝕄 :=
  iprop((cdfLoc d ↦{q} gc) ∗ (midLoc d ↦{q} gz) ∗ (uniLoc d ↦{q} gu) ∗ bigSep Finset.univ fun t : Fin k1_t1_loop.trips => outLoc d ↦[(outK L t).view.set]{fullShare} f)

set_option maxHeartbeats 1000000 in
/-- The task on tile `(L 0, L 1)` of device `d`: its rows of the results end at the rays' values. -/
theorem tile_body (hF : (K (F := F)).Facts) (O : CellTallies nD τ sig (HIx 1)) (W : Waits sig (HIx 1)) (hO : ∀ g, O g none = 0) :
    iprop(levAts (K (F := F)).L (K (F := F)).lev ∗ emp ∗ taskPts d L gc gz gu q fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L cdfV (Memref.isWhole_whole _) midV (Memref.isWhole_whole _) uniV (Memref.isWhole_whole _) outV (Memref.isWhole_whole _)
            sC (Memref.isWhole_whole _) sZ (Memref.isWhole_whole _) sU (Memref.isWhole_whole _) sO (Memref.isWhole_whole _) cc1_scoped0 cc1_scoped1 cc1_scoped2 cc1_scoped3)
          fun _ => iprop(taskPts d L gc gz gu q (outs gc gz gu)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold taskPts
  iintro ⟨#Hlv, -, ⟨Hc, Hz, Hu, Hout⟩, ⟨H0, H1, H2, H3, Hbufs⟩, ⟨S0, S1, S2, S3, Hsems⟩, HO⟩
  iapply (wp_chunks d L gc gz gu fo q hF O W hO) $$ [Hc Hz Hu Hout H0 H1 H2 H3 S0 S1 S2 S3 HO]
  · isplitr; · iexact Hlv
    isplitr [Hout]
    · unfold tileHeld
      isplitl [Hc]; · iexact Hc
      isplitl [Hz]; · iexact Hz
      isplitl [Hu]; · iexact Hu
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iexists W; isplitr
      · ipureintro; exact fun p hp => .inl hp
      · iexact HO
    · iexact Hout
  unfold tileHeld
  iintro ⟨⟨Hc, Hz, Hu, H0, H1, H2, H3, S0, S1, S2, S3, HO⟩, Hout⟩
  sl_step
  isplitl [Hc Hz Hu Hout]
  · isplitl [Hc]; · iexact Hc
    isplitl [Hz]; · iexact Hz
    isplitl [Hu]; · iexact Hu
    iexact Hout
  isplitl [H0 H1 H2 H3 Hbufs]
  · isplitl [H0]; · iexact H0
    isplitl [H1]; · iexact H1
    isplitl [H2]; · iexact H2
    isplitl [H3]; · iexact H3
    iexact Hbufs
  isplitl [S0 S1 S2 S3 Hsems]
  · isplitl [S0]; · iexact S0
    isplitl [S1]; · iexact S1
    isplitl [S2]; · iexact S2
    isplitl [S3]; · iexact S3
    iexact Hsems
  iexact HO

end Loop

end Cert.Proof.Ray
-- ==== Proof.Prep.lean ====
/-
  The first call of the kernel, on the TensorCore: the tables of cumulative weights and of midpoints, 512 rays to a
  point of its grid of 128. The body run once over its staging buffers; the two result arrays as functions of the two
  argument arrays (`cdfArr`, `midArr`); the call as a region of the program.
-/
module

public import proofs.«01_k».proof.Proof.Tile
public import Idealize.ShloMosaic.Lib.Pipeline.Value
public import Idealize.ShloMosaic.Lib.Pipeline.ValueKit.Tiles
public import Idealize.ShloMosaic.Lib.Pipeline.Regions
public import Idealize.ShloMosaic.Lib.Tactic

@[expose] public section

noncomputable section

namespace Cert.Proof.Ray

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body -/

/-- A whole buffer owned at contents `X`: some contents that read as `X`. -/
theorem owns_isWhole {sp : Space} {s : Shape} {e : EltTy} (d : Dev nD) (M : Memref sig .tc sp s e) (h : M.IsWhole) (X : s.Idx → Elt F e) :
    (owns d M fullShare X : sProp 𝕄) = iprop(∃ f, ⌜M.view.read (Elt F) f = X⌝ ∗ (M.view.loc (d : Thread nD τ) ↦{fullShare} f)) := by
  unfold owns; rw [h.set_eq_univ]

/-- The inner weights of a block of 512 rays: columns 1 to 190. -/
def inner (X : S512x192.Idx → F .f32) : Vec F S512x190 .f32 :=
  fun y => X ((Rect.unit (s := S512x192) ![0, 1] S512x190.size inb_S512x192_S512x190_0_1).idx y)

theorem zz : (![0, 0] : Fin 2 → Nat) = fun _ => 0 := funext fun a => by fin_cases a <;> rfl

/-- What one store of a whole block leaves in a staging buffer. -/
theorem read_one {sp : Space} (M : Memref sig .tc sp S512x192 .f32) (f : M.view.ty.Contents (Elt F)) (w : S512x192.Idx → F .f32)
    (h : ∀ a, (![0, 0] : Fin 2 → Nat) a + S512x192.size a ≤ S512x192.size a) :
    M.view.read (Elt F) (M.view.writes (Elt F) f [⟨Rect.unit (s := S512x192) ![0, 0] S512x192.size h, w⟩]) = w := by
  funext x
  have e : (Rect.unit (s := S512x192) ![0, 0] S512x192.size h).emb x = x := by
    funext a; apply Fin.ext
    have := Rect.idx_unit_val (s := S512x192) ![0, 0] S512x192.size h x a
    refine this.trans ?_
    fin_cases a <;> simp
  have h2 := View.read_writes_cons_emb (Val := Elt F) M.view f (Rect.unit (s := S512x192) ![0, 0] S512x192.size h) w [] x
  rw [e] at h2
  exact h2

set_option maxHeartbeats 1000000 in
/-- The body, from its four staging buffers to the same with the two tables in the results'. -/
theorem wp_prep (d : Dev nD) (i : grid0.Coords) (M0 : Memref sig .tc .vmem S512x192 .f32) (h0 : M0.IsWhole) (M1 : Memref sig .tc .vmem S512x192 .f32)
    (h1 : M1.IsWhole) (M2 : Memref sig .tc .vmem S512x192 .f32) (h2 : M2.IsWhole) (M3 : Memref sig .tc .vmem S512x192 .f32) (h3 : M3.IsWhole)
    (X0 X1 X2 X3 : S512x192.Idx → F .f32) {Q : PUnit → sProp 𝕄} :
    iprop(owns d M0 fullShare X0 ∗ owns d M1 fullShare X1 ∗ owns d M2 fullShare X2 ∗ owns d M3 fullShare X3
        ∗ (iprop(owns d M0 fullShare X0 ∗ owns d M1 fullShare X1 ∗ owns d M2 fullShare (k0_pay1 (inner X1)) ∗ owns d M3 fullShare (k0_pay2 X0)) -∗ Q ⟨⟩))
      ⊢ wp frame (wpE (defs₀ (F := F)) 𝒱₀ (d : Thread nD τ) none) Set.univ (cc0__prep_body i M0 h0 M1 h1 M2 h2 M3 h3) Q := by
  rw [owns_isWhole d M0 h0, owns_isWhole d M1 h1, owns_isWhole d M2 h2, owns_isWhole d M3 h3, owns_isWhole d M2 h2, owns_isWhole d M3 h3]
  rw [cc0__prep_body_eq_skeleton]
  unfold cc0__prep_body_skel
  iintro ⟨⟨%f0, %e0, H0⟩, ⟨%f1, %e1, H1⟩, ⟨%f2, %e2, H2⟩, ⟨%f3, %e3, H3⟩, Hk⟩
  sl_exec!
  sl_step
  iapply Hk
  isplitl [H0]; · iexists f0; isplitr; (· ipureintro; exact e0); iexact H0
  isplitl [H1]; · iexists f1; isplitr; (· ipureintro; exact e1); iexact H1
  isplitl [H2]
  · iexists _; isplitr; swap; (· iexact H2)
    ipureintro
    refine (read_one M2 _ _ _).trans ?_
    show k0_pay1 (View.readAt (Elt F) M1.view (Rect.unit (s := S512x192) ![0, 1] S512x190.size inb_S512x192_S512x190_0_1).toLoadRect f1) = _
    rw [View.readAt_eq_ld, e1]; rfl
  · iexists _; isplitr; swap; (· iexact H3)
    ipureintro
    refine (read_one M3 _ _ _).trans ?_
    show k0_pay2 (View.readAt (Elt F) M0.view (Rect.unit (s := S512x192) ![0, 0] S512x192.size inb_S512x192_S512x192_0_0).toLoadRect f0) = _
    rw [View.readAt_eq_ld, e0, View.ld_unit_zero zz]

/-! ## The tables as functions of the arguments -/

/-- The place of an index of block `n` in the array. -/
def at512 (n : Fin 128) (y : S512x192.Idx) : S65536x192.Idx :=
  ix2 (⟨512 * n.val + (y 0).val, by have : (y 0).val < 512 := (y 0).isLt; omega⟩ : Fin 65536) (y 1)

/-- Block `n` of an array, 512 of its rows. -/
def blockN (X : S65536x192.Idx → F .f32) (n : Fin 128) : S512x192.Idx → F .f32 := fun y => X (at512 n y)

/-- The block a row lies in, and its row there. -/
def blkOf (x : S65536x192.Idx) : Fin 128 := ⟨(x 0).val / 512, by have : (x 0).val < 65536 := (x 0).isLt; omega⟩
def inBlk (x : S65536x192.Idx) : S512x192.Idx := ix2 (⟨(x 0).val % 512, Nat.mod_lt _ (by decide)⟩ : Fin 512) (x 1)

theorem at512_inBlk (x : S65536x192.Idx) : at512 (blkOf x) (inBlk x) = x := by
  refine Eq.trans ?_ (eq_ix2 x).symm
  unfold at512 blkOf inBlk
  congr 1
  exact Fin.ext (Nat.div_add_mod _ _)

theorem blkOf_at512 (n : Fin 128) (y : S512x192.Idx) : blkOf (at512 n y) = n := by
  have : (y 0).val < 512 := (y 0).isLt
  apply Fin.ext
  show (512 * n.val + (y 0).val) / 512 = n.val
  omega

theorem inBlk_at512 (n : Fin 128) (y : S512x192.Idx) : inBlk (at512 n y) = y := by
  have : (y 0).val < 512 := (y 0).isLt
  refine Eq.trans ?_ (eq_ix2 y).symm
  show ix2 (⟨(512 * n.val + (y 0).val) % 512, _⟩ : Fin 512) (y 1) = _
  congr 1
  apply Fin.ext
  show (512 * n.val + (y 0).val) % 512 = (y 0).val
  omega

/-- The table of cumulative weights, from the weights. -/
def cdfArr (w : S65536x192.Idx → F .f32) : S65536x192.Idx → F .f32 := fun x => k0_pay1 (inner (blockN w (blkOf x))) (inBlk x)
/-- The table of midpoints, from the depths. -/
def midArr (z : S65536x192.Idx → F .f32) : S65536x192.Idx → F .f32 := fun x => k0_pay2 (blockN z (blkOf x)) (inBlk x)

theorem blockN_cdfArr (w : S65536x192.Idx → F .f32) (n : Fin 128) : blockN (cdfArr w) n = k0_pay1 (inner (blockN w n)) := by
  funext y
  show k0_pay1 (inner (blockN w (blkOf (at512 n y)))) (inBlk (at512 n y)) = _
  rw [blkOf_at512, inBlk_at512]
theorem blockN_midArr (z : S65536x192.Idx → F .f32) (n : Fin 128) : blockN (midArr z) n = k0_pay2 (blockN z n) := by
  funext y
  show k0_pay2 (blockN z (blkOf (at512 n y))) (inBlk (at512 n y)) = _
  rw [blkOf_at512, inBlk_at512]

/-- Each window's block at a point begins at row `512 t`. -/
theorem idx0 : ∀ t : Fin cfg0.N, win0_0.index t (0 : Fin 2) = t.val ∧ win0_0.index t (1 : Fin 2) = 0 := (by decide +kernel : ∀ t : Fin grid0.N, _)

/-- The grid's points by their number. -/
def num (t : Fin cfg0.N) : Fin 128 := ⟨t.val, lt_of_lt_of_eq t.isLt N_0⟩

theorem emb0 (t : Fin cfg0.N) (y : S512x192.Idx) : ((cfg0.win 0).blk t).view.emb y = at512 (num t) y := by
  obtain ⟨e0, e1⟩ := idx0 t
  funext a; apply Fin.ext
  match a with
  | ⟨0, _⟩ => show win0_0.index t (0 : Fin 2) * 512 + 1 * (y 0).val = 512 * t.val + (y 0).val; omega
  | ⟨1, _⟩ => show win0_0.index t (1 : Fin 2) * 192 + 1 * (y 1).val = (y 1).val; omega

theorem read0 (t : Fin cfg0.N) (X : S65536x192.Idx → F .f32) : ((cfg0.win 0).blk t).view.read (Elt F) X = blockN X (num t) := by
  funext y; show X (((cfg0.win 0).blk t).view.emb y) = _; rw [emb0]; rfl
theorem read1 (t : Fin cfg0.N) (X : S65536x192.Idx → F .f32) : ((cfg0.win 1).blk t).view.read (Elt F) X = blockN X (num t) := read0 t X
theorem read2 (t : Fin cfg0.N) (X : S65536x192.Idx → F .f32) : ((cfg0.win 2).blk t).view.read (Elt F) X = blockN X (num t) := read0 t X
theorem read3 (t : Fin cfg0.N) (X : S65536x192.Idx → F .f32) : ((cfg0.win 3).blk t).view.read (Elt F) X = blockN X (num t) := read0 t X

/-! ## The call's proof data -/

variable (V : (d : Dev nD) → (b : Ref sig .tc) → Buf (Elt F) ((d : Thread nD τ).loc b)) (n : ℕ)

/-- The arrays as the call finds them; each input's staging buffer as fetched, each result's at its table's block; what
    the core owes the SparseCores carried through, its recorded waits at levels up to `n`. -/
def dat (d : Dev nD) : Dat τ (Elt F) (HIx 1) ℕ UU ℕ cfg0 d where
  A w := V d (Pipeline.arrRef spec0 w)
  after w t := match w with
    | ⟨0, _⟩ => blockN (V d main_arg2) (num t)
    | ⟨1, _⟩ => blockN (V d main_arg3) (num t)
    | ⟨2, _⟩ => k0_pay1 (inner (blockN (V d main_arg3) (num t)))
    | ⟨3, _⟩ => k0_pay2 (blockN (V d main_arg2) (num t))
  Φ _ := BI.emp
  q _ := fullShare
  owed _ := (K (F := F)).Otc d 0
  recorded _ := {p | (K (F := F)).lev (N := 1) (SparseCore.T d, p.1) p.2 ≤ n}

abbrev adm : (p : Fin 1) → (pcfgs (F := F) p).Adm := fun p => (cfgs p).toPCfg_adm

def pdats (p : Fin 1) (d : Dev nD) : Dat τ (Elt F) (HIx 1) ℕ UU ℕ (Pipeline.pin (pcfgs (F := F)) adm p) d := match p with
  | ⟨0, _⟩ => dat V n d

theorem before0 (d : Dev nD) (t : Fin cfg0.N) (X : S512x192.Idx → Elt F .f32) : (dat (F := F) V n d).before 0 t X = blockN (F := F) (V d main_arg2) (num t) := by
  rw [(dat V n d).before_fetched 0 t (fetch0_0 t)]; exact read0 (F := F) t _
theorem before1 (d : Dev nD) (t : Fin cfg0.N) (X : S512x192.Idx → Elt F .f32) : (dat (F := F) V n d).before 1 t X = blockN (F := F) (V d main_arg3) (num t) := by
  rw [(dat V n d).before_fetched 1 t (fetch0_1 t)]; exact read1 (F := F) t _

/-- The body at every point of the grid. -/
theorem body_obligation (d : Dev nD) : BodyObligation (dat (F := F) V n d) (defs₀ (F := F)) 𝒱₀ none Set.univ := fun t => by
  rw [bigSep_W0, bigSep_W0]
  simp only []
  rw [show (dat (F := F) V n d).Φ t.castSucc = BI.emp from rfl, show (dat (F := F) V n d).Φ t.succ = BI.emp from rfl,
    show (dat (F := F) V n d).owesAt none t.succ = (dat (F := F) V n d).owesAt none t.castSucc from rfl]
  iintro ⟨-, Howes, ⟨%X0, H0⟩, ⟨%X1, H1⟩, ⟨%X2, H2⟩, ⟨%X3, H3⟩⟩
  rw [before0, before1]
  iapply (wp_prep d (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (blockN (V d main_arg2) (num t)) (blockN (V d main_arg3) (num t)))
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexact H0
  isplitl [H1]; · iexact H1
  isplitl [H2]; · iexact H2
  iexact H3

/-! ## The two result arrays after the call -/

/-- A table's array ends at the function whose blocks the points write back. -/
theorem final2 (d : Dev nD) : (dat (F := F) V n d).arrAt 2 cfg0.N = cdfArr (V d main_arg3) :=
  (dat V n d).arrAt_eq_of_cover 2 (cdfArr (V d main_arg3))
    (fun t _ => ((read2 t _).trans (blockN_cdfArr _ _)).symm)
    fun x => ⟨⟨(blkOf x).val, lt_of_lt_of_eq (blkOf x).isLt N_0.symm⟩, flush0_2 _, by
      have h := ((cfg0.win 2).blk ⟨(blkOf x).val, lt_of_lt_of_eq (blkOf x).isLt N_0.symm⟩).view.emb_mem_set (inBlk x)
      rw [show ((cfg0.win 2).blk ⟨(blkOf x).val, lt_of_lt_of_eq (blkOf x).isLt N_0.symm⟩).view.emb (inBlk x) = x from
        (emb0 ⟨(blkOf x).val, lt_of_lt_of_eq (blkOf x).isLt N_0.symm⟩ (inBlk x)).trans (at512_inBlk x)] at h
      exact h⟩

theorem final3 (d : Dev nD) : (dat (F := F) V n d).arrAt 3 cfg0.N = midArr (V d main_arg2) :=
  (dat V n d).arrAt_eq_of_cover 3 (midArr (V d main_arg2))
    (fun t _ => ((read3 t _).trans (blockN_midArr _ _)).symm)
    fun x => ⟨⟨(blkOf x).val, lt_of_lt_of_eq (blkOf x).isLt N_0.symm⟩, flush0_3 _, by
      have h := ((cfg0.win 3).blk ⟨(blkOf x).val, lt_of_lt_of_eq (blkOf x).isLt N_0.symm⟩).view.emb_mem_set (inBlk x)
      rw [show ((cfg0.win 3).blk ⟨(blkOf x).val, lt_of_lt_of_eq (blkOf x).isLt N_0.symm⟩).view.emb (inBlk x) = x from
        (emb0 ⟨(blkOf x).val, lt_of_lt_of_eq (blkOf x).isLt N_0.symm⟩ (inBlk x)).trans (at512_inBlk x)] at h
      exact h⟩

/-! ## The call as a region of the program -/

/-- The core owes no unit of its own transfers. -/
theorem Otc_none (d : Dev nD) (g : GSem nD τ sig) : (K (F := F)).Otc (N := 1) d 0 g none = 0 := by
  by_contra h
  have h1 := (K (F := F)).lev_of_Otc_pos (Nat.pos_of_ne_zero h)
  rw [SparseCore.Cfg.lev_none] at h1
  omega

/-- The core's debts to the SparseCores, its recorded waits at levels up to `n`. -/
def owesT (d : Dev nD) : sProp 𝕄 := iprop(∃ W, ⌜(K (F := F)).WBelow (N := 1) (SparseCore.T d) W n⌝ ∗ owes (SparseCore.T d) ((K (F := F)).Otc d 0) W)

/-- What is held after the call: the arguments as found, the two tables, the other arrays. -/
def afterPrep (d : Dev nD) : sProp 𝕄 :=
  iprop(((SparseCore.T d).loc main_arg2 ↦{fullShare} V d main_arg2) ∗ ((SparseCore.T d).loc main_arg3 ↦{fullShare} V d main_arg3)
    ∗ (cdfLoc d ↦{fullShare} cdfArr (V d main_arg3)) ∗ (midLoc d ↦{fullShare} midArr (V d main_arg2))
    ∗ Pipeline.unscopedRest (Ix := HIx 1) (Name := ℕ) (U := UU) (Lvl := ℕ) spec0 d (V d))

theorem owes_in (d : Dev nD) : owesT (F := F) n d ⊢ (dat V n d).owesAt none 0 := by
  unfold owesT Pipeline.Dat.owesAt Pipeline.owesWithin
  iintro ⟨%W, %h, H⟩
  iexists W; isplitr
  · ipureintro; exact fun p hp => Or.inl (h p hp)
  iexact H

theorem owes_out (d : Dev nD) : (dat V n d).owesAt none (Fin.last _) ⊢ owesT (F := F) n d := by
  unfold owesT Pipeline.Dat.owesAt Pipeline.owesWithin
  iintro ⟨%W, %h, H⟩
  iexists W; isplitr
  · ipureintro
    intro p hp
    rcases h hp with h1 | ⟨w, s, rfl⟩
    · exact h1
    · exact Nat.zero_le _
  iexact H

set_option backward.isDefEq.respectTransparency.types false in
/-- The region: entered with every array of the core at `V`, left at `afterPrep`. -/
def reg : Pipeline.RegionSeg (pcfgs (F := F)) adm (pdats V n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V n d).loose
  hwaits d := Pipeline.cellsWaits_intro _ _ _ _ _ fun w s t => (K (F := F)).mayWait_none _ (Otc_none d)
  pre d := iprop(unscopedBufs d (V d) ∗ owesT (F := F) n d)
  post d := iprop(afterPrep V d ∗ owesT (F := F) n d)
  X _ := BI.emp
  Y _ := BI.emp
  Z d := Pipeline.unscopedRest (Ix := HIx 1) (Name := ℕ) (U := UU) (Lvl := ℕ) spec0 d (V d)
  hentry d := by
    rw [Pipeline.ownSems0_none]
    have hsplit := Pipeline.arrays_of_unscopedBufs (p := 0) (pcfgs (F := F)) adm (pdats V n) launch0.win launch0.arr_whole d
      ((pdats V n 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (show owesT (F := F) n d ⊢ (pdats V n 0 d).owesAt none 0 from owes_in V n d) $$ HO
    isplitr; · iempintro
    iexact Hrest
  hin d := by
    rw [show (pdats (F := F) V n 0 d).Φ 0 = BI.emp from rfl]
    iintro ⟨-, -, -⟩; iempintro
  hout d := by
    rw [Pipeline.ownSems0_none, show (pdats (F := F) V n 0 d).Φ (Fin.last _) = BI.emp from rfl, show Pipeline.scopedRest _ d = _ from scopedRest0_eq d]
    iintro -
    isplitr; · iempintro
    isplitr; · iempintro
    iempintro
  hexit d := by
    have e := Pipeline.arrays_eq (Pipeline.pin (pcfgs (F := F)) adm) (pdats V n) 0 d launch0.arr_whole ((pdats V n 0 d).share_full fun _ => rfl)
      ((pdats V n 0 d).arrAt · cfg0.N)
    iintro ⟨Ha, HO, -, Hrest⟩
    ihave Ha := (Entails.of_eq e) $$ Ha
    ihave Ha := (Entails.of_eq (bigSep_W0 _)) $$ Ha
    icases Ha with ⟨H0, H1, H2, H3⟩
    imodintro
    isplitr [HO]
    · unfold afterPrep
      isplitl [H0]
      · rw [← show (dat (F := F) V n d).arrAt 0 cfg0.N = V d main_arg2 from (dat V n d).arrAt_in 0 rfl _]; iexact H0
      isplitl [H1]
      · rw [← show (dat (F := F) V n d).arrAt 1 cfg0.N = V d main_arg3 from (dat V n d).arrAt_in 1 rfl _]; iexact H1
      isplitl [H2]
      · rw [← final2 V n d]; iexact H2
      isplitl [H3]
      · rw [← final3 V n d]; iexact H3
      iexact Hrest
    iapply (show (pdats V n 0 d).owesAt none (Fin.last (Pipeline.pin (pcfgs (F := F)) adm 0).N) ⊢ owesT (F := F) n d from owes_out V n d) $$ HO

end Cert.Proof.Ray
-- ==== Proof.Split.lean ====
/-
  The arrays dealt to the thirty-two tiles: the ones that all read by shares, the results by the rows each tile writes.
-/
module

public import proofs.«01_k».proof.Proof.Prep
public import Idealize.ShloMosaic.Lib.SparseCore.Stream

@[expose] public section

noncomputable section

namespace Cert.Proof.Ray

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## Shares -/

/-- The share of tile `(c, i)`. -/
def tq (c : Fin 2) (i : Fin 16) : PosShare TreeShare := piece (piece fullShare 1 c) 15 i

theorem pts_tiles {ℓ : Loc nD τ sig} (f : Buf (Elt F) ℓ) :
    (ℓ ↦{fullShare} f : sProp 𝕄) = bigSep Finset.univ fun c : Fin 2 => bigSep Finset.univ fun i : Fin 16 => ℓ ↦{tq c i} f := by
  rw [pointsTo_pieces Finset.univ f 1 fullShare]
  exact bigSep_congr fun c _ => pointsTo_pieces Finset.univ f 15 _

/-! ## The rows of the results -/

/-- The grid's point of tile `(c, i)`. -/
def coordsV (c : Fin (grid1.bound 0)) (s : Fin (grid1.bound 1)) : grid1.Coords :=
  fun | 0 => c | 1 => s | ⟨_ + 2, h⟩ => absurd h (Nat.not_lt.2 (Nat.le_add_left _ _))
def tileAt (c : Fin 2) (i : Fin 16) : grid1.Coords := coordsV c i

theorem trips_eq : k1_t1_loop.trips = 32 := by decide +kernel

/-- The rows that tile `(c, i)` writes in its chunk `t`. -/
def rowsOf (p : Fin 2 × Fin 16 × Fin k1_t1_loop.trips) : Finset S65536x96.Idx := (outK (tileAt p.1 p.2.1) p.2.2).view.set

/-- The tile and the chunk that write an index of the results. -/
def owner (x : S65536x96.Idx) : Fin 2 × Fin 16 × Fin k1_t1_loop.trips :=
  (⟨(x 0).val / 2048 % 2, Nat.mod_lt _ (by decide)⟩,
    ⟨(x 0).val / 4096, by have : (x 0).val < 65536 := (x 0).isLt; omega⟩,
    ⟨(x 0).val % 2048 / 64, by rw [trips_eq]; omega⟩)

theorem mem_rowsOf (p : Fin 2 × Fin 16 × Fin k1_t1_loop.trips) (x : S65536x96.Idx) : x ∈ rowsOf p ↔ owner x = p := by
  obtain ⟨c, i, t⟩ := p
  have ht : t.val < 32 := lt_of_lt_of_eq t.isLt trips_eq
  have hx1 : (x 1).val < 96 := (x 1).isLt
  have e : rowsOf (c, i, t) = (slim (tileAt c i) t).set := by
    show ((View.whole (main_v1_scv : Ref sig .scVector)).slice (slim (tileAt c i) t)).set = _
    rw [View.set_slice]; exact Finset.map_refl
  have eo : k1_off2 (tileAt c i) t = ![4096 * i.val + 2048 * c.val + 64 * t.val, 0] := k1_off2_eq (tileAt c i) t
  rw [e, Rect.mem_set_unit]
  constructor
  · intro h
    have h0 := h 0
    rw [eo] at h0
    have h0' : 4096 * i.val + 2048 * c.val + 64 * t.val ≤ (x 0).val ∧ (x 0).val < 4096 * i.val + 2048 * c.val + 64 * t.val + 64 := h0
    have hc := c.isLt
    refine Prod.ext (Fin.ext ?_) (Prod.ext (Fin.ext ?_) (Fin.ext ?_))
    · show (x 0).val / 2048 % 2 = c.val; omega
    · show (x 0).val / 4096 = i.val; omega
    · show (x 0).val % 2048 / 64 = t.val; omega
  · intro h
    have hc : (x 0).val / 2048 % 2 = c.val := congrArg (fun p => p.1.val) h
    have hi : (x 0).val / 4096 = i.val := congrArg (fun p => p.2.1.val) h
    have htt : (x 0).val % 2048 / 64 = t.val := congrArg (fun p => p.2.2.val) h
    intro a
    rw [eo]
    match a with
    | ⟨0, _⟩ =>
      show 4096 * i.val + 2048 * c.val + 64 * t.val ≤ (x 0).val ∧ (x 0).val < 4096 * i.val + 2048 * c.val + 64 * t.val + 64
      omega
    | ⟨1, _⟩ => show 0 ≤ (x 1).val ∧ (x 1).val < 0 + 96; omega

set_option maxRecDepth 16384 in
/-- The results held whole are their rows held tile by tile and chunk by chunk. -/
theorem out_tiles (d : Dev nD) (f : S65536x96.Idx → F .f32) :
    (outLoc d ↦{fullShare} f : sProp 𝕄)
      = bigSep Finset.univ fun c : Fin 2 => bigSep Finset.univ fun i : Fin 16 => bigSep Finset.univ fun t : Fin k1_t1_loop.trips =>
          outLoc d ↦[(outK (tileAt c i) t).view.set]{fullShare} f := by
  have hc : (Finset.univ : Finset (Fin 2 × Fin 16 × Fin k1_t1_loop.trips)).biUnion rowsOf = Finset.univ :=
    Finset.eq_univ_of_forall fun x => Finset.mem_biUnion.mpr ⟨owner x, Finset.mem_univ _, (mem_rowsOf (owner x) x).mpr (Eq.refl _)⟩
  have hd : ∀ p ∈ (Finset.univ : Finset (Fin 2 × Fin 16 × Fin k1_t1_loop.trips)), ∀ p' ∈ (Finset.univ : Finset (Fin 2 × Fin 16 × Fin k1_t1_loop.trips)),
      p ≠ p' → Disjoint (rowsOf p) (rowsOf p') := fun p _ p' _ h =>
    Finset.disjoint_left.mpr fun x hx hx' => h (((mem_rowsOf p x).mp hx).symm.trans ((mem_rowsOf p' x).mp hx'))
  have h := pointsTo_biUnion (ℓ := outLoc d) (q := fullShare) (f := f) (Val := Elt F) (Ix := HIx 1) (Name := ℕ) (U := UU) (Lvl := ℕ) Finset.univ rowsOf hd
  rw [hc] at h
  refine h.trans ?_
  rw [bigSep_univ_prod]
  refine bigSep_congr fun c _ => ?_
  rw [bigSep_univ_prod]
  rfl

/-! ## All the arrays of the second call -/

/-- What the second call works on, the results at `f`: dealt to the tiles. -/
theorem deal (d : Dev nD) (gc gz : S65536x192.Idx → F .f32) (gu f : S65536x96.Idx → F .f32) :
    (iprop((cdfLoc d ↦{fullShare} gc) ∗ (midLoc d ↦{fullShare} gz) ∗ (uniLoc d ↦{fullShare} gu) ∗ (outLoc d ↦{fullShare} f)) : sProp 𝕄)
      = bigSep Finset.univ fun c : Fin 2 => bigSep Finset.univ fun i : Fin 16 => taskPts d (tileAt c i) gc gz gu (tq c i) f := by
  unfold taskPts
  rw [out_tiles d f, pts_tiles (ℓ := cdfLoc d), pts_tiles (ℓ := midLoc d), pts_tiles (ℓ := uniLoc d), ← bigSep_sep', ← bigSep_sep', ← bigSep_sep']
  refine bigSep_congr fun c _ => ?_
  rw [← bigSep_sep', ← bigSep_sep', ← bigSep_sep']

end Cert.Proof.Ray
-- ==== Proof.Launch.lean ====
/-
  The whole program: what the SparseCores' handshakes carry, the tiles' obligation, the TensorCore's program, and the run:
  every argument array as it was, every result the value of its ray.
-/
module

public import proofs.«01_k».proof.Proof.Split
public import Idealize.ShloMosaic.Lib.SparseCore.Quiescent

@[expose] public section

noncomputable section

namespace Cert.Proof.Ray

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The table of cumulative weights of the launch memory, and that of midpoints. -/
def gcOf (d : Dev nD) : S65536x192.Idx → F .f32 := cdfArr (m ((SparseCore.T d).loc main_arg3))
def gzOf (d : Dev nD) : S65536x192.Idx → F .f32 := midArr (m ((SparseCore.T d).loc main_arg2))
/-- The results: every ray's value. -/
def resOf (d : Dev nD) : S65536x96.Idx → F .f32 := outs (gcOf m d) (gzOf m d) (m (uniLoc d))

/-- What tile `(c, i)` works on, its rows of the results at `f`. -/
def tilePts (d : Dev nD) (c : Fin 2) (i : Fin 16) (f : S65536x96.Idx → F .f32) : sProp 𝕄 :=
  taskPts d (tileAt c i) (gcOf m d) (gzOf m d) (m (uniLoc d)) (tq c i) f
/-- What the tiles of SparseCore `c` work on. -/
def corePts (d : Dev nD) (c : Fin 2) (f : S65536x96.Idx → F .f32) : sProp 𝕄 :=
  bigSep Finset.univ fun i : Fin 16 => tilePts m d c i f

instance tilePts_storable (d : Dev nD) (c : Fin 2) (i : Fin 16) (f : S65536x96.Idx → F .f32) :
    BI.Storable (upEmb : UEmb _ 𝕄) (tilePts m d c i f) := by
  unfold tilePts taskPts; infer_instance
instance corePts_storable (d : Dev nD) (c : Fin 2) (f : S65536x96.Idx → F .f32) : BI.Storable (upEmb : UEmb _ 𝕄) (corePts m d c f) := by
  unfold corePts; infer_instance

theorem nCore_zero : (K (F := F)).nCore 0 = 2 := rfl
theorem nSub_zero : (K (F := F)).nSub 0 = 16 := rfl

/-- The call takes each tile's part with the results as launched, and brings it back with the rays' values. -/
def P : (K (F := F)).Pay (nD := nD) (Val := Elt F) (Name := ℕ) (U := UU) where
  st := fun q d c => match q with | 0 => corePts m d (Fin.cast nCore_zero c) (m (outLoc d))
  dn := fun q d c => match q with | 0 => corePts m d (Fin.cast nCore_zero c) (resOf m d)
  go := fun q d c i => match q with | 0 => tilePts m d (Fin.cast nCore_zero c) (Fin.cast nSub_zero i) (m (outLoc d))
  td := fun q d c i => match q with | 0 => tilePts m d (Fin.cast nCore_zero c) (Fin.cast nSub_zero i) (resOf m d)
  x := fun _ _ => iprop(emp)

instance P_storable : (P (F := F) m).IsStorable where
  st q d c := match q with | 0 => (corePts_storable m d (Fin.cast nCore_zero c) (m (outLoc d)))
  dn q d c := match q with | 0 => (corePts_storable m d (Fin.cast nCore_zero c) (resOf m d))
  go q d c i := match q with | 0 => (tilePts_storable m d (Fin.cast nCore_zero c) (Fin.cast nSub_zero i) (m (outLoc d)))
  td q d c i := match q with | 0 => (tilePts_storable m d (Fin.cast nCore_zero c) (Fin.cast nSub_zero i) (resOf m d))

/-! ## The tiles -/

theorem defs₀_vector (c : Fin τ.nSC) (s : Fin τ.nSub) :
    defs₀ (F := F) (.scVector c s) 1 ()
      = SparseCore.onTile hcore1 hsub1 (fun c s => cc1__sc_body (coordsV c s)
          cdfV (Memref.isWhole_whole _) midV (Memref.isWhole_whole _) uniV (Memref.isWhole_whole _) outV (Memref.isWhole_whole _)
          sC (Memref.isWhole_whole _) sZ (Memref.isWhole_whole _) sU (Memref.isWhole_whole _) sO (Memref.isWhole_whole _) cc1_scoped0 cc1_scoped1 cc1_scoped2 cc1_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the grid does its part. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (gcOf m d) (gzOf m d) (m (uniLoc d)) (m (outLoc d)) (tq (Fin.cast nCore_zero c) (Fin.cast nSub_zero i))
    facts O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles' parts. -/
theorem vecSplit : (K (F := F)).VecSplit' (P m) 0 := by
  intro d c
  show corePts m d (Fin.cast nCore_zero c) (m (outLoc d)) ⊢ |={Set.univ}=> iprop(
      (bigSep Finset.univ fun i : Fin ((K (F := F)).nSub 0) => tilePts m d (Fin.cast nCore_zero c) (Fin.cast nSub_zero i) (m (outLoc d)))
      ∗ ((bigSep Finset.univ fun i : Fin ((K (F := F)).nSub 0) => tilePts m d (Fin.cast nCore_zero c) (Fin.cast nSub_zero i) (resOf m d))
          -∗ corePts m d (Fin.cast nCore_zero c) (resOf m d)))
  rw [bigSep_tasks (F := F) (fun i => tilePts m d (Fin.cast nCore_zero c) i (m (outLoc d))), bigSep_tasks (F := F) (fun i => tilePts m d (Fin.cast nCore_zero c) i (resOf m d))]
  unfold corePts
  iintro H; imodintro
  isplitl [H]; · iexact H
  iintro H; iexact H

/-! ## The launch's ghost state -/

abbrev pins : Fin 1 → Pipeline.Cfg sig Λ₀ := Pipeline.pin (pcfgs (F := F)) adm
theorem pins_inj : Function.Injective (Pipeline.cellOf (nD := nD) (τ := τ) (pins (F := F))) := cellOf_inj

/-- The first call's share of the ghost state on device `d`. -/
def Gd (d : Dev nD) : sProp 𝕄 := iprop(Pipeline.cellsGhost (pins (F := F)) ER 0 d ∗ Pipeline.toksInit (pins (F := F)) ER 0 d)

def u₀ : UU := (initOf (K (F := F)).hsCells (K (F := F)).hsToks,
  (initOf (Pipeline.cells (pins (F := F)) pins_inj) (Pipeline.launchToks (pins (F := F)) pins_inj), 1))

theorem own_ER (b : Counters) : BI.own ((embR : Emb (UR₁ × Counters) 𝕄) (initOf (Pipeline.cells (pins (F := F)) pins_inj) (Pipeline.launchToks (pins (F := F)) pins_inj), b))
    ⊢ (BI.own (ER (initOf (Pipeline.cells (pins (F := F)) pins_inj) (Pipeline.launchToks (pins (F := F)) pins_inj))) : sProp 𝕄) := by
  iintro H
  ihave H := (own_pair_emb embR (initOf (Pipeline.cells (pins (F := F)) pins_inj) (Pipeline.launchToks (pins (F := F)) pins_inj)) b) $$ H
  icases H with ⟨H, -⟩
  iexact H

theorem hu₀ : (ownU (u₀ (F := F)) : sProp 𝕄)
    ⊢ |={Set.univ}=> iprop(BI.own (EH (initOf (K (F := F)).hsCells (K (F := F)).hsToks)) ∗ (bigSep Finset.univ (Gd (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UR₁ × Counters)) $$ Hu
  icases H with ⟨HH, HR⟩
  ihave HR := (own_ER (F := F) 1) $$ HR
  imod (Pipeline.fund_ghost (pins (F := F)) ER pins_inj) $$ HR with ⟨Hg, Ht⟩
  imodintro
  isplitl [HH]; · iexact HH
  isplitl [Hg Ht]
  · unfold Gd
    rw [bigSep_sep']
    isplitl [Hg]
    · rw [show (bigSep Finset.univ fun d : Dev nD => Pipeline.cellsGhost (pins (F := F)) ER 0 d)
        = bigSep Finset.univ fun d : Dev nD => bigSep Finset.univ fun p : Fin 1 => Pipeline.cellsGhost (pins (F := F)) ER p d from
        bigSep_congr fun d _ => (bigSep_univ_of_subsingleton (Φ := fun p : Fin 1 => Pipeline.cellsGhost (pins (F := F)) ER p d) 0).symm]
      iexact Hg
    · rw [show (bigSep Finset.univ fun d : Dev nD => Pipeline.toksInit (pins (F := F)) ER 0 d)
        = bigSep Finset.univ fun d : Dev nD => bigSep Finset.univ fun p : Fin 1 => Pipeline.toksInit (pins (F := F)) ER p d from
        bigSep_congr fun d _ => (bigSep_univ_of_subsingleton (Φ := fun p : Fin 1 => Pipeline.toksInit (pins (F := F)) ER p d) 0).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## The program on the TensorCore -/

theorem st0_eq (d : Dev nD) : (bigSep Finset.univ fun c : Fin ((K (F := F)).nCore 0) => (P m).st 0 d c)
    = iprop((cdfLoc d ↦{fullShare} gcOf m d) ∗ (midLoc d ↦{fullShare} gzOf m d) ∗ (uniLoc d ↦{fullShare} m (uniLoc d)) ∗ (outLoc d ↦{fullShare} m (outLoc d))) :=
  (bigSep_cores (F := F) fun c => corePts m d c (m (outLoc d))).trans (deal d _ _ _ _).symm
theorem dn0_eq (d : Dev nD) : (bigSep Finset.univ fun c : Fin ((K (F := F)).nCore 0) => (P m).dn 0 d c)
    = iprop((cdfLoc d ↦{fullShare} gcOf m d) ∗ (midLoc d ↦{fullShare} gzOf m d) ∗ (uniLoc d ↦{fullShare} m (uniLoc d)) ∗ (outLoc d ↦{fullShare} resOf m d)) :=
  (bigSep_cores (F := F) fun c => corePts m d c (resOf m d)).trans (deal d _ _ _ _).symm

abbrev held1 (d : Dev nD) (b : Ref sig .tc) : sProp 𝕄 := (SparseCore.T d).loc b ↦{fullShare} m ((SparseCore.T d).loc b)

/-- What the program ends with: the six arguments as launched, the results at the rays' values. -/
def FIN (d : Dev nD) : sProp 𝕄 :=
  iprop(held1 m d main_arg0 ∗ held1 m d main_arg1 ∗ held1 m d main_arg2 ∗ held1 m d main_arg3 ∗ held1 m d main_arg4 ∗ held1 m d main_arg5
    ∗ (outLoc d ↦{fullShare} resOf m d))

abbrev Vm (d : Dev nD) (b : Ref sig .tc) : Buf (Elt F) ((d : Thread nD τ).loc b) := m ((SparseCore.T d).loc b)

variable [∀ e, Nonempty (Elt F e)]

/-- The first call, at the head of a program. -/
theorem wp_prepCall (d : Dev nD) {α : Type} (k : PUnit → Prog (TpuEff nD τ sig (Elt F) (ΛP (F := F)) .tc) α) {Q : α → sProp 𝕄} :
    iprop((iprop(boundary (SparseCore.T d) ∗ afterPrep (Vm m) d ∗ owesT (F := F) 0 d) -∗ wp frame (wpE (D (F := F)) 𝒱 (SparseCore.T d) none) Set.univ (k ⟨⟩) Q)
        ∗ boundary (SparseCore.T d) ∗ (unscopedBufs d (Vm m d) ∗ owesT (F := F) 0 d) ∗ levAts (K (F := F)).L (K (F := F)).lev ∗ Gd (F := F) d)
      ⊢ wp frame (wpE (D (F := F)) 𝒱 (SparseCore.T d) none) Set.univ (.op (.customCall (Pipeline.entry 0) ()) k) Q :=
  Pipeline.RegionSeg.wp (pcfgs (F := F)) adm (pdats (Vm m) 0) none pins_inj ER defs₀ 𝒱₀ (K (F := F)).L (K (F := F)).lev (reg (Vm m) 0) d none
    (fun u hu => by simp at hu) k Q

set_option maxRecDepth 16384 in
theorem afterPrep_eq (d : Dev nD) : afterPrep (Vm m) d
    = iprop(held1 m d main_arg2 ∗ held1 m d main_arg3 ∗ (cdfLoc d ↦{fullShare} gcOf m d) ∗ (midLoc d ↦{fullShare} gzOf m d)
        ∗ held1 m d main_arg0 ∗ held1 m d main_arg1 ∗ (uniLoc d ↦{fullShare} m (uniLoc d)) ∗ held1 m d main_arg5 ∗ (outLoc d ↦{fullShare} m (outLoc d))) := by
  unfold afterPrep
  rw [unscopedRest0_eq]
  rfl

/-- The TensorCore's state before the first call: what it owes, and the rest. -/
theorem tcSt_take (d : Dev nD) : ∃ R : sProp 𝕄, ((K (F := F)).tcSt EH d 0 : sProp 𝕄) = iprop(owesT (F := F) 0 d ∗ R) := ⟨_, rfl⟩

/-- The program on device `d`'s TensorCore: the tables, then the call to the SparseCores. -/
theorem hmain (κ : GSem nD τ sig → ℕ) (d : Dev nD) : iprop((K (F := F)).ctx EH (P m) κ ∗ (K (F := F)).tcSt EH d 0 ∗ (K (F := F)).tcRes m ρ d ∗ Gd (F := F) d)
    ⊢ wp frame (wpE ((K (F := F)).defs D) 𝒱 (SparseCore.T d) none) Set.univ (main (F := F) d) fun _ => iprop((K (F := F)).tcSt EH d 1 ∗ FIN m d ∗ (K (F := F)).tcEnd d) := by
  obtain ⟨R, hR⟩ := tcSt_take (F := F) d
  unfold SparseCore.Cfg.tcRes SparseCore.Cfg.tcEnd
  rw [hR]
  simp only [main, wp_bind, wp_pure]
  iintro ⟨#Hctx, ⟨HO, Hrest⟩, ⟨Hb, Hu, Hs, -⟩, HG⟩
  ihave #Hlev := (SparseCore.Cfg.ctx_levAts κ) $$ Hctx
  iapply ((K (F := F)).wp_liftProg (D (F := F)) 𝒱 (SparseCore.T d) Set.univ none (Prog.lift (.customCall (Pipeline.entry 0) ())) _)
  iapply (wp_prepCall m d Prog.ret)
  isplitr [Hb Hu HO HG]
  · iintro ⟨Hb, Ha, HO⟩
    ihave Ha := (Entails.of_eq (afterPrep_eq m d)) $$ Ha
    icases Ha with ⟨H2, H3, Hc, Hz, H0, H1, H4, H5, Hout⟩
    rw [wp_ret]
    imodintro
    iapply ((K (F := F)).wp_run (D (F := F)) 𝒱 (EH := EH) (P := P m) κ d 0) $$ [H2 H3 Hc Hz H0 H1 H4 H5 Hout HO Hrest Hb Hs]
    isplitr; · iexact Hctx
    isplitl [HO Hrest]
    · iapply (Entails.of_eq hR.symm)
      isplitl [HO] <;> iassumption
    isplitl [Hc Hz H4 Hout]
    · rw [st0_eq]
      isplitl [Hc]; · iexact Hc
      isplitl [Hz]; · iexact Hz
      isplitl [H4]; · iexact H4
      iexact Hout
    iintro ⟨Hst, Hdn⟩
    ihave Hdn := (Entails.of_eq (dn0_eq m d)) $$ Hdn
    icases Hdn with ⟨-, -, H4, Hout⟩
    imodintro
    isplitl [Hst]; · iexact Hst
    isplitr [Hb Hs]
    · unfold FIN
      isplitl [H0]; · iexact H0
      isplitl [H1]; · iexact H1
      isplitl [H2]; · iexact H2
      isplitl [H3]; · iexact H3
      isplitl [H4]; · iexact H4
      isplitl [H5]; · iexact H5
      iexact Hout
    isplitl [Hb] <;> iassumption
  · isplitl [Hb]; · iexact Hb
    isplitl [Hu HO]
    · isplitl [Hu] <;> iassumption
    isplitr; · iexact Hlev
    iexact HG

/-! ## The run -/

/-- What the run leaves on device `d`. -/
def fq (d : Dev nD) (s' : Phys nD τ sig (Elt F)) : Prop :=
  (∀ b ∈ ([main_arg0, main_arg1, main_arg2, main_arg3, main_arg4, main_arg5] : List (Ref sig .tc)),
    s'.mem.mem ((SparseCore.T d).loc b) = m ((SparseCore.T d).loc b)) ∧ s'.mem.mem (outLoc d) = resOf m d

theorem agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, Ho⟩, HSI⟩
  ihave H := (agree s' _ _) $$ [H0 HSI]; · isplitl [H0] <;> iassumption
  icases H with ⟨%h0, HSI⟩
  ihave H := (agree s' _ _) $$ [H1 HSI]; · isplitl [H1] <;> iassumption
  icases H with ⟨%h1, HSI⟩
  ihave H := (agree s' _ _) $$ [H2 HSI]; · isplitl [H2] <;> iassumption
  icases H with ⟨%h2, HSI⟩
  ihave H := (agree s' _ _) $$ [H3 HSI]; · isplitl [H3] <;> iassumption
  icases H with ⟨%h3, HSI⟩
  ihave H := (agree s' _ _) $$ [H4 HSI]; · isplitl [H4] <;> iassumption
  icases H with ⟨%h4, HSI⟩
  ihave H := (agree s' _ _) $$ [H5 HSI]; · isplitl [H5] <;> iassumption
  icases H with ⟨%h5, HSI⟩
  ihave H := (agree s' _ _) $$ [Ho HSI]; · isplitl [Ho] <;> iassumption
  icases H with ⟨%ho, -⟩
  ipureintro
  refine ⟨?_, ho⟩
  simp only [List.mem_cons, List.not_mem_nil, or_false, forall_eq_or_imp, forall_eq]
  exact ⟨h0, h1, h2, h3, h4, h5⟩

/-- What the run ends with: on every device the arguments as launched and the results the rays' values; every semaphore at zero. -/
def QC : PUnit × MemSt nD τ sig (Elt F) → Prop := fun r =>
  (∀ d : Dev nD, (∀ b ∈ ([main_arg0, main_arg1, main_arg2, main_arg3, main_arg4, main_arg5] : List (Ref sig .tc)),
    r.2.mem ((SparseCore.T d).loc b) = m ((SparseCore.T d).loc b)) ∧ r.2.mem (outLoc d) = resOf m d) ∧ r.2.sem = fun _ => 0

/-- Every run ends, and so. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (Gd (F := F)) (FIN m) (u₀ (F := F)) (sep_elim_left.trans (hu₀ m)) (hmain m ρ) (fq m) (hfin m) (QC m) (fun _ h hz => ⟨h, hz⟩)

end Cert.Proof.Ray
-- ==== Proof.Frames.lean ====
/-
  The frame claims: each program runs, leaves its arguments as they were, and ends with every semaphore at zero.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.StableHlo.RunHlo

@[expose] public section

noncomputable section

namespace Cert.Proof.Ray

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- What the run says of the six arguments, one by one. -/
theorem args_of (m' : (ℓ : Loc nD τ sig) → Buf (Elt F) ℓ) (d : Dev nD)
    (h : ∀ b ∈ ([main_arg0, main_arg1, main_arg2, main_arg3, main_arg4, main_arg5] : List (Ref sig .tc)), m' ((SparseCore.T d).loc b) = m ((SparseCore.T d).loc b)) :
    m' ((SparseCore.T d).loc main_arg0) = m ((SparseCore.T d).loc main_arg0)
      ∧ m' ((SparseCore.T d).loc main_arg1) = m ((SparseCore.T d).loc main_arg1)
      ∧ m' ((SparseCore.T d).loc main_arg2) = m ((SparseCore.T d).loc main_arg2)
      ∧ m' ((SparseCore.T d).loc main_arg3) = m ((SparseCore.T d).loc main_arg3)
      ∧ m' ((SparseCore.T d).loc main_arg4) = m ((SparseCore.T d).loc main_arg4)
      ∧ m' ((SparseCore.T d).loc main_arg5) = m ((SparseCore.T d).loc main_arg5) :=
  ⟨h _ (by simp), h _ (by simp), h _ (by simp), h _ (by simp), h _ (by simp), h _ (by simp)⟩

/-- The two printings of the kernel are one text: their bodies agree, processor by processor. -/
theorem defs₀_same : Cert.Kernel.defs₀ (F := Bits) = Cert.KernelIdeal.defs₀ (F := Bits) := by
  funext p ℓ a
  match p, ℓ, a with
  | .tc, 0, _ => rfl
  | .tc, 1, _ => rfl
  | .scScalar _, 0, _ => rfl
  | .scScalar _, 1, _ => rfl
  | .scVector _ _, 0, _ => rfl
  | .scVector _ _, 1, _ => rfl

theorem defs_same : Cert.Kernel.defs (F := Bits) = Cert.KernelIdeal.defs (F := Bits) :=
  congrArg (fun B => Cert.KernelIdeal.sc.defs (Pipeline.defs (nD := nD) (τ := τ) (Cert.KernelIdeal.pcfgs (F := Bits)) B)) defs₀_same

/-- The kernel at words. -/
theorem frame_kernel : Cert.quiescent_Kernel := fun m ρ _ =>
  (congrArg (fun B => θ_run B (Cert.Kernel.threads (F := Bits)) ⟨m, fun _ => 0, ρ⟩ _) defs_same).mpr
    ((θ_run Cert.KernelIdeal.defs (Cert.KernelIdeal.threads (F := Bits)) _).mono (fun _ h => ⟨fun c => args_of (F := Bits) m _ c (h.1 c).1, h.2⟩)
      (run_main (F := Bits) m ρ))

/-- The kernel over the extended reals. -/
theorem frame_kernelIdeal : Cert.quiescent_KernelIdeal := fun m ρ _ =>
  (θ_run Cert.KernelIdeal.defs Cert.KernelIdeal.threads _).mono (fun _ h => ⟨fun c => args_of m _ c (h.1 c).1, h.2⟩) (run_main (F := Ideal) m ρ)

/-- The reference over the extended reals. -/
theorem frame_referenceIdeal : Cert.quiescent_ReferenceIdeal := fun m ρ _ =>
  (θ_run Cert.ReferenceIdeal.defs (onTc (τ := Cert.ReferenceIdeal.τ) (Cert.ReferenceIdeal.main (F := Ideal))) _).mono
    (fun r h => ⟨fun c => (h c).2, Idealize.ShloMosaic.sem_eq_zero_of_no_sems (by decide) r.2⟩) (Cert.ReferenceIdeal.Value.run (F := Ideal) m ρ)

end Cert.Proof.Ray

end
-- ==== Proof.Search.lean ====
/-
  The arithmetic of the search: a row of sums of non-negative numbers over one positive total grows, so the edges at most a
  number are its first ones, the binary search finds how many they are, and dividing each term or the sum is one thing.
-/
module

public import proofs.«01_k».proof.Proof.Model
public import Idealize.ShloMosaic.PureOps.Ideal.Laws

@[expose] public section

noncomputable section

namespace Cert.Proof.Ray

open Idealize.ShloMosaic

/-! ## Sums of non-negative extended reals -/

/-- Dividing every term by a positive number divides the sum. -/
theorem sum_div (W : ℕ → EReal) (T : EReal) (hW : ∀ k, 0 ≤ W k) (hT : 0 < T) (j : ℕ) :
    ∑ k ∈ Finset.range j, Ideal.div (W k) T = Ideal.div (∑ k ∈ Finset.range j, W k) T := by
  have hd : ∀ x, Ideal.div x T = x * T⁻¹ := fun x => by unfold Ideal.div; rw [if_neg hT.ne']
  simp only [hd]
  induction j with
  | zero => simp
  | succ j ih =>
    rw [Finset.sum_range_succ, Finset.sum_range_succ, ih,
      EReal.right_distrib_of_nonneg (Finset.sum_nonneg fun k _ => hW k) (hW j)]

/-- The sums divided by a positive total grow. -/
theorem edge_mono (W : ℕ → EReal) (T : EReal) (hW : ∀ k, 0 ≤ W k) (hT : 0 < T) :
    Monotone fun j => Ideal.div (∑ k ∈ Finset.range j, W k) T := by
  have hd : ∀ x, Ideal.div x T = x * T⁻¹ := fun x => by unfold Ideal.div; rw [if_neg hT.ne']
  intro i j hij
  simp only [hd]
  exact mul_le_mul_of_nonneg_right (Finset.sum_le_sum_of_subset_of_nonneg (Finset.range_mono hij) fun k _ _ => hW k)
    (EReal.inv_nonneg_of_nonneg hT.le)

/-! ## Counting an initial segment -/

/-- Of a property that holds below wherever it holds, the places of a range with it are those below its count. -/
theorem lt_count_iff (P : ℕ → Prop) [DecidablePred P] (hP : ∀ a b, a ≤ b → P b → P a) {N k : ℕ} (hk : k < N) :
    P k ↔ k < Nat.count P N := by
  constructor
  · intro h
    have h1 : Nat.count P (k + 1) = k + 1 := by
      rw [Nat.count_iff_forall]
      exact fun n hn => hP n k (by omega) h
    have h2 := Nat.count_monotone P (show k + 1 ≤ N by omega)
    omega
  · intro h
    by_contra hn
    obtain ⟨r, rfl⟩ : ∃ r, N = k + r := ⟨N - k, by omega⟩
    rw [Nat.count_add] at h
    have h0 : Nat.count (fun j => P (k + j)) r = 0 := by
      rw [Nat.count_iff_forall_not]
      exact fun j _ hj => hn (hP k (k + j) (by omega) hj)
    have := Nat.count_le (p := P) (n := k)
    omega

/-! ## The search -/

/-- One step of the search towards `n` at width `w`. -/
theorem nextN_of (c : Fin 192 → EReal) (u : EReal) (n : ℕ)
    (h : ∀ k, k < 191 → (FloatOps.cmpf (F := Ideal) (φ := .f32) .ole (c (Fin.ofNat 192 k)) u = 1#1 ↔ k < n)) (hn : n ≤ 191) {w p : ℕ} (hw : 1 ≤ w)
    (hp : p ≤ n) (hlt : n < p + 2 * w) :
    nextN (F := Ideal) c u w p ≤ n ∧ n < nextN (F := Ideal) c u w p + w := by
  unfold nextN
  by_cases hle : p + w ≤ n
  · rw [if_pos ⟨by omega, by rw [Nat.min_eq_left (by omega)]; exact (h _ (by omega)).2 (by omega)⟩]
    omega
  · rw [if_neg]
    · omega
    · rintro ⟨h1, h2⟩
      rw [Nat.min_eq_left h1] at h2
      have := (h _ (by omega)).1 h2
      omega

/-- Where the edges at most `u` are the first `n`, the search finds `n`. -/
theorem findN_of (c : Fin 192 → EReal) (u : EReal) (n : ℕ)
    (h : ∀ k, k < 191 → (FloatOps.cmpf (F := Ideal) (φ := .f32) .ole (c (Fin.ofNat 192 k)) u = 1#1 ↔ k < n)) (hn : n ≤ 191) :
    findN (F := Ideal) c u = n := by
  unfold findN
  have h1 := nextN_of c u n h hn (w := 128) (p := 0) (by omega) (by omega) (by omega)
  have h2 := nextN_of c u n h hn (w := 64) (by omega) h1.1 h1.2
  have h3 := nextN_of c u n h hn (w := 32) (by omega) h2.1 h2.2
  have h4 := nextN_of c u n h hn (w := 16) (by omega) h3.1 h3.2
  have h5 := nextN_of c u n h hn (w := 8) (by omega) h4.1 h4.2
  have h6 := nextN_of c u n h hn (w := 4) (by omega) h5.1 h5.2
  have h7 := nextN_of c u n h hn (w := 2) (by omega) h6.1 h6.2
  have h8 := nextN_of c u n h hn (w := 1) (by omega) h7.1 h7.2
  omega

end Cert.Proof.Ray

end
-- ==== Proof.Tables.lean ====
/-
  The two tables over the extended reals: an edge is a sum of the first weights over the sum of all of them, a midpoint the
  half of two neighbouring depths' sum.
-/
module

public import proofs.«01_k».proof.Proof.Prep
public import proofs.«01_k».proof.Proof.Search
public import Idealize.ShloMosaic.Lib.Pointwise

@[expose] public section

noncomputable section

namespace Cert.Proof.Ray

open Cert.KernelIdeal Cert.KernelIdeal.Gen
open Idealize.ShloMosaic Idealize.SL.Sem

/-- The small number added to every weight. -/
def eps : EReal := Ideal.ofBits .f32 0x3727C5AC#32

/-- The `k`-th inner weight of ray `i` (past the last one, the last), with the small constant added. -/
def wt (w : S65536x192.Idx → EReal) (i : Fin 65536) (k : ℕ) : EReal := w (ix2 i (Fin.ofNat 192 (min k 189 + 1))) + eps

theorem wt_of_lt (w : S65536x192.Idx → EReal) (i : Fin 65536) {k : ℕ} (hk : k < 190) : wt w i k = w (ix2 i (Fin.ofNat 192 (k + 1))) + eps := by
  unfold wt
  rw [Nat.min_eq_left (by omega)]

/-- The `j`-th edge of ray `i`: the sum of its first `j` weights over the sum of them all. -/
def edge (w : S65536x192.Idx → EReal) (i : Fin 65536) (j : ℕ) : EReal :=
  Ideal.div (∑ k ∈ Finset.range j, wt w i k) (∑ k ∈ Finset.range 190, wt w i k)

/-- The `j`-th midpoint of ray `i`. -/
def mid (z : S65536x192.Idx → EReal) (i : Fin 65536) (j : ℕ) : EReal :=
  Ideal.ofBits .f32 0x3F000000#32 * (z (ix2 i (Fin.ofNat 192 j)) + z (ix2 i (Fin.ofNat 192 (j + 1))))

theorem ext2 {n m : ℕ} {x y : (⟨2, ![n, m]⟩ : Shape).Idx} (h0 : (x 0).val = (y 0).val) (h1 : (x 1).val = (y 1).val) : x = y :=
  funext fun a => Fin.ext (match a with | ⟨0, _⟩ => h0 | ⟨1, _⟩ => h1)

theorem pay2_apply (v : S512x192.Idx → EReal) (r : Fin 512) (j : Fin 192) (hj : j.val < 191) :
    k0_pay2 (F := Ideal) v (ix2 r j) = Ideal.ofBits .f32 0x3F000000#32 * (v (ix2 r j) + v (ix2 r ⟨j.val + 1, by omega⟩)) := by
  unfold k0_pay2
  pointwise
  rw [dif_pos hj]
  simp only [Nat.add_comm 1]

/-- Picking the terms below `m` by comparing words sums the first `m`. -/
theorem sum_pick (g : Fin 190 → EReal) (m : ℕ) (hm : m < 2 ^ 31) :
    (∑ x : Fin 190, Scalar.select (IntOp.cmpi .slt (BitVec.ofNat 32 x.val) (BitVec.ofNat 32 m)) (g x) 0)
      = ∑ k ∈ Finset.range (min m 190), g (Fin.ofNat 190 k) := by
  have h1 : ∀ x : Fin 190, Scalar.select (IntOp.cmpi .slt (BitVec.ofNat 32 x.val) (BitVec.ofNat 32 m)) (g x) 0
      = (fun k : ℕ => if k < m then g (Fin.ofNat 190 k) else 0) x.val := by
    intro x
    have hx : Fin.ofNat 190 x.val = x := Fin.ext (Nat.mod_eq_of_lt x.isLt)
    show (if BitVec.ofBool ((BitVec.ofNat 32 x.val).slt (BitVec.ofNat 32 m)) = 1 then g x else 0) = if x.val < m then g (Fin.ofNat 190 x.val) else 0
    rw [slt_word (by omega) hm, hx]
    by_cases h : x.val < m <;> simp [h]
  rw [Finset.sum_congr rfl fun x _ => h1 x, Fin.sum_univ_eq_sum_range (fun k : ℕ => if k < m then g (Fin.ofNat 190 k) else 0), ← Finset.sum_filter]
  refine Finset.sum_congr ?_ fun _ _ => rfl
  ext k
  simp only [Finset.mem_filter, Finset.mem_range]
  omega

theorem pay1_apply (v : S512x190.Idx → EReal) (r : Fin 512) (j : Fin 192) :
    k0_pay1 (F := Ideal) v (ix2 r j) = Ideal.div (∑ k ∈ Finset.range (min j.val 190), (v (ix2 r (Fin.ofNat 190 k)) + eps))
      (∑ k ∈ Finset.range 190, (v (ix2 r (Fin.ofNat 190 k)) + eps)) := by
  unfold k0_pay1
  pointwise
  have hm : IntOp.minsi (BitVec.ofNat 32 j.val) 191#32 = BitVec.ofNat 32 (min j.val 191) := min_word (by omega) (by omega)
  have hm' : IntOp.minsi 191#32 191#32 = BitVec.ofNat 32 191 := by decide
  rw [hm, hm']
  erw [sum_pick (fun x => v (ix2 r x) + eps) _ (by omega), sum_pick (fun x => v (ix2 r x) + eps) _ (by omega)]
  congr 3
  omega

/-- The table of edges, at a place of a row. -/
theorem cdfArr_apply (w : S65536x192.Idx → EReal) (i : Fin 65536) (j : ℕ) (hj : j < 191) :
    cdfArr (F := Ideal) w (ix2 i (Fin.ofNat 192 j)) = edge w i j := by
  have hv : ∀ k, k < 190 → inner (F := Ideal) (blockN w (blkOf (ix2 i (Fin.ofNat 192 j)))) (ix2 (⟨i.val % 512, Nat.mod_lt _ (by decide)⟩ : Fin 512) (Fin.ofNat 190 k))
      = w (ix2 i (Fin.ofNat 192 (k + 1))) := by
    intro k hk
    refine congrArg w ?_
    apply ext2
    · show 512 * (i.val / 512) + (0 + 1 * (i.val % 512)) = i.val
      omega
    · show 1 + 1 * (k % 190) = (k + 1) % 192
      omega
  show k0_pay1 (F := Ideal) _ (ix2 (⟨i.val % 512, Nat.mod_lt _ (by decide)⟩ : Fin 512) (Fin.ofNat 192 j)) = _
  rw [pay1_apply]
  unfold edge
  rw [show (Fin.ofNat 192 j).val = j from Nat.mod_eq_of_lt (by omega), Nat.min_eq_left (by omega)]
  congr 1
  · exact Finset.sum_congr rfl fun k hk => by rw [hv k (by have := Finset.mem_range.1 hk; omega), wt_of_lt w i (by have := Finset.mem_range.1 hk; omega)]
  · exact Finset.sum_congr rfl fun k hk => by rw [hv k (Finset.mem_range.1 hk), wt_of_lt w i (Finset.mem_range.1 hk)]

/-- The table of midpoints, at a place of a row. -/
theorem midArr_apply (z : S65536x192.Idx → EReal) (i : Fin 65536) (j : ℕ) (hj : j < 191) :
    midArr (F := Ideal) z (ix2 i (Fin.ofNat 192 j)) = mid z i j := by
  have hj' : (Fin.ofNat 192 j).val = j := Nat.mod_eq_of_lt (by omega)
  have hv : ∀ k : Fin 192, blockN (F := Ideal) z (blkOf (ix2 i (Fin.ofNat 192 j))) (ix2 (⟨i.val % 512, Nat.mod_lt _ (by decide)⟩ : Fin 512) k) = z (ix2 i k) := by
    intro k
    refine congrArg z ?_
    apply ext2
    · exact Nat.div_add_mod _ _
    · rfl
  show k0_pay2 (F := Ideal) _ (ix2 (⟨i.val % 512, Nat.mod_lt _ (by decide)⟩ : Fin 512) (Fin.ofNat 192 j)) = _
  rw [pay2_apply _ _ _ (by omega), hv, hv]
  unfold mid
  rw [show (⟨(Fin.ofNat 192 j).val + 1, by omega⟩ : Fin 192) = Fin.ofNat 192 (j + 1) from Fin.ext (by simp [Fin.ofNat]; omega)]

end Cert.Proof.Ray

end
-- ==== Proof.RefRead.lean ====
/-
  The reference's result at an index, over the extended reals: the interpolation at the interval that counting finds.
-/
module

public import proofs.«01_k».proof.Proof.Tables
public import proofs.«01_k».proof.Proof.Gen.ReferenceIdeal.Run
public import Idealize.ShloMosaic.Lib.Pointwise
public import Idealize.ShloMosaic.Lib.Routing.OpsSearch
public import Idealize.ShloMosaic.Lib.Routing.OpsPair
public import Idealize.ShloMosaic.Lib.IdealHost

@[expose] public section

noncomputable section

namespace Cert.Proof.Refn

open Cert.ReferenceIdeal Cert.ReferenceIdeal.Gen Cert.ReferenceIdeal.Value
open Idealize.ShloMosaic Idealize.ShloMosaic.TcCoe Idealize.SL.Sem Idealize.ShloMosaic.StableHlo
open Cert.Proof.Ray (eps wt edge mid ext2)

/-! ## The gather and the running sum, read at an index -/

/-- The gather along the columns, where its index holds a place of the row. -/
theorem gather_at {α : Type} (x : S65536x191.Idx → α) (idx : IVec S65536x96x1 32) (i : Fin 65536) (p : Fin 96) (k : ℕ) (hk : k ≤ 190)
    (hi : idx (ix3 i p (0 : Fin 1)) = BitVec.ofNat 32 k) :
    Host.gather gather_S65536x191_S65536x96x1_S65536x96_n_1_0_0_1_2_11 x idx (ix2 i p) = x (ix2 i (Fin.ofNat 191 k)) := by
  unfold Host.gather
  refine congrArg x (ext2 ?_ ?_)
  · show GatherDims.start _ _ idx 0 + GatherDims.batchCoord _ _ 0 + GatherDims.offCoord _ _ 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S65536x191_S65536x96x1_S65536x96_n_1_0_0_1_2_11.operandBatchingDims from List.mem_singleton.mpr rfl)]
    rfl
  · show GatherDims.start _ _ idx 1 + GatherDims.batchCoord _ _ 1 + GatherDims.offCoord _ _ 1 = k % 191
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S65536x191_S65536x96x1_S65536x96_n_1_0_0_1_2_11.startIndexMap from List.mem_singleton.mpr rfl)]
    have hsi : gather_S65536x191_S65536x96x1_S65536x96_n_1_0_0_1_2_11.siIdx (ix2 i p)
        ⟨List.idxOf (1 : Fin 2) gather_S65536x191_S65536x96x1_S65536x96_n_1_0_0_1_2_11.startIndexMap, List.idxOf_lt_length_iff.2 (List.mem_singleton.mpr rfl)⟩
        = ix3 i p (0 : Fin 1) := by
      funext b; refine Fin.ext ?_
      match b with
      | ⟨0, _⟩ => rfl
      | ⟨1, _⟩ => rfl
      | ⟨2, _⟩ => rfl
    rw [hsi, hi]
    show min (BitVec.ofNat 32 k).toInt.toNat 190 = k % 191
    rw [WordCmp.toInt_ofNat_of_lt (by omega), Int.toNat_natCast]
    omega

/-- A fold that adds a term at each step adds the terms' sum. -/
theorem foldl_terms {N : ℕ} (g : EReal → Fin N → EReal) (f : ℕ → EReal) (h : ∀ r n, g r n = r + f n.val) :
    (List.finRange N).foldl g 0 = ∑ n ∈ Finset.range N, f n := by
  have key : ∀ (l : List (Fin N)) (r : EReal), l.foldl g r = r + (l.map fun n => f n.val).sum := by
    intro l
    induction l with
    | nil => intro r; simp
    | cons a l ih => intro r; rw [List.foldl_cons, ih, h, List.map_cons, List.sum_cons, add_assoc]
  rw [key, zero_add, ← List.ofFn_eq_map, List.sum_ofFn, Fin.sum_univ_eq_sum_range f]

/-- The window of the running sum. -/
abbrev Win : Shape := ⟨2, ![1, 190]⟩

/-- The places of the window, in order. -/
theorem win_symm (n : Fin Win.numel) : (Win.rowMajor.symm n 0).val = 0 ∧ (Win.rowMajor.symm n 1).val = n.val := by
  have hn : n.val < 190 := n.isLt.trans_le (by decide)
  have hs := Routing.symm22 (A := 1) (B := 190) n (by omega) (by omega)
  constructor
  · refine (congrArg (fun (y : Win.Idx) => (y 0).val) hs).trans ?_
    show n.val / 190 = 0
    omega
  · refine (congrArg (fun (y : Win.Idx) => (y 1).val) hs).trans ?_
    show n.val % 190 = n.val
    omega

/-- The running sum along a row. -/
theorem cumsum_at (x : S65536x190.Idx → EReal) (i : Fin 65536) (j : Fin 190)
    (h : S65536x190.ReduceWindows (![1, 190] : Fin 2 → Nat) ![1, 1] ![0, 189] ![0, 0] S65536x190) :
    Ideal.hostReduceWindowAdd ![1, 190] ![1, 1] ![0, 189] ![0, 0] h x 0 (ix2 i j) = ∑ k ∈ Finset.range (j.val + 1), x (ix2 i (Fin.ofNat 190 k)) := by
  have hj := j.isLt
  unfold Ideal.hostReduceWindowAdd Host.reduceWindow
  refine (foldl_terms _ (fun n => if 189 ≤ j.val + n then x (ix2 i (Fin.ofNat 190 (j.val + n - 189))) else 0) (fun r n => ?_)).trans ?_
  · have hn : n.val < 190 := n.isLt.trans_le (by decide)
    obtain ⟨hw0, hw1⟩ := win_symm n
    dsimp only
    refine congrArg (r + ·) ?_
    split
    · next hin =>
      have h1 := hin 1
      change 189 ≤ j.val * 1 + (Win.rowMajor.symm n 1).val ∧ j.val * 1 + (Win.rowMajor.symm n 1).val - 189 < 190 at h1
      rw [hw1] at h1
      rw [if_pos (by omega)]
      refine congrArg x (ext2 ?_ ?_)
      · show i.val * 1 + (Win.rowMajor.symm n 0).val - 0 = i.val
        rw [hw0]; omega
      · show j.val * 1 + (Win.rowMajor.symm n 1).val - 189 = (j.val + n.val - 189) % 190
        rw [hw1]; omega
    · next hin =>
      rw [if_neg]
      refine fun hle => hin fun a => ?_
      match a with
      | ⟨0, _⟩ =>
        show 0 ≤ i.val * 1 + (Win.rowMajor.symm n 0).val ∧ i.val * 1 + (Win.rowMajor.symm n 0).val - 0 < 65536
        rw [hw0]; have := i.isLt; omega
      | ⟨1, _⟩ =>
        show 189 ≤ j.val * 1 + (Win.rowMajor.symm n 1).val ∧ j.val * 1 + (Win.rowMajor.symm n 1).val - 189 < 190
        rw [hw1]; omega
  · show (∑ n ∈ Finset.range 190, if 189 ≤ j.val + n then x (ix2 i (Fin.ofNat 190 (j.val + n - 189))) else 0) = _
    rw [← Finset.sum_filter]
    refine Finset.sum_bij' (fun n _ => j.val + n - 189) (fun k _ => k + 189 - j.val) ?_ ?_ ?_ ?_ ?_
    all_goals simp only [Finset.mem_filter, Finset.mem_range]
    all_goals intros
    all_goals first | omega | trivial

/-! ## Taking along the columns -/

/-- A small natural's word is not taken for a place counted from the end. -/
theorem wrap_word {k : ℕ} (hk : k ≤ 190) :
    Scalar.select (IntOp.cmpi .slt (BitVec.ofNat 32 k) 0#32) (IntOp.addi (BitVec.ofNat 32 k) 191#32) (BitVec.ofNat 32 k) = BitVec.ofNat 32 k := by
  show (if BitVec.ofBool ((BitVec.ofNat 32 k).slt (BitVec.ofNat 32 0)) = 1 then _ else _) = _
  rw [Ray.slt_word (by omega) (by omega)]
  rfl

/-- A small natural's word passes the test that it names a place of the row. -/
theorem inside_word {k : ℕ} (hk : k ≤ 190) :
    Finset.fold IntOp.andi (1#1) (fun _ : Fin 1 => IntOp.andi (IntOp.cmpi .sge (BitVec.ofNat 32 k) 0#32) (IntOp.cmpi .sle (BitVec.ofNat 32 k) 190#32)) Finset.univ = 1#1 := by
  have h1 : IntOp.cmpi .sge (BitVec.ofNat 32 k) 0#32 = 1#1 := by
    show BitVec.ofBool ((BitVec.ofNat 32 0).sle (BitVec.ofNat 32 k)) = 1#1
    rw [BitVec.sle_eq_decide, WordCmp.toInt_ofNat_of_lt (by omega), WordCmp.toInt_ofNat_of_lt (by omega), decide_eq_true (by omega)]
    rfl
  have h2 : IntOp.cmpi .sle (BitVec.ofNat 32 k) 190#32 = 1#1 := by
    show BitVec.ofBool ((BitVec.ofNat 32 k).sle (BitVec.ofNat 32 190)) = 1#1
    rw [BitVec.sle_eq_decide, WordCmp.toInt_ofNat_of_lt (by omega), WordCmp.toInt_ofNat_of_lt (by omega), decide_eq_true (by omega)]
    rfl
  rw [h1, h2, Finset.univ_unique, Finset.fold_singleton]
  rfl

/-- Taking, along each row, the place a table of words names (negative words counted from the end, places outside the row made a NaN). -/
def takeOf (x : S65536x191.Idx → EReal) (a : IVec S65536x96 32) : S65536x96.Idx → EReal :=
  let ix : IVec S65536x96x1 32 := shapeCast _ (select (cmpi .slt a (broadcastInDim S65536x96 ![] bcast_S_S65536x96 (constantI S_ 32 0#32))) (addi a (broadcastInDim S65536x96 ![] bcast_S_S65536x96 (constantI S_ 32 191#32))) a) shapeCasts_S65536x96_S65536x96x1
  select (Host.reduce IntOp.andi (andi (cmpi .sge ix (broadcastInDim S65536x96x1 ![] bcast_S_S65536x96x1 (constantI S_ 32 0#32))) (cmpi .sle ix (broadcastInDim S65536x96x1 ![0, 1, 2] bcast_S1x1x1_S65536x96x1_0_1_2 (broadcastInDim S1x1x1 ![2] bcast_S1_S1x1x1_2 (constantI S1 32 190#32))))) (constantI S_ 1 1#1) reducesTo_S65536x96x1_S65536x96_d2 h_S_) (Host.gather gather_S65536x191_S65536x96x1_S65536x96_n_1_0_0_1_2_11 x ix) (broadcastInDim S65536x96 ![] bcast_S_S65536x96 (constant (F := Ideal) S_ .f32 0x7FC00000#32))

/-- Taking at a word that names a place of the row reads that place. -/
theorem takeOf_at (x : S65536x191.Idx → EReal) (a : IVec S65536x96 32) (i : Fin 65536) (p : Fin 96) (k : ℕ) (hk : k ≤ 190)
    (ha : a (ix2 i p) = BitVec.ofNat 32 k) : takeOf x a (ix2 i p) = x (ix2 i (Fin.ofNat 191 k)) := by
  have hix : (shapeCast S65536x96x1 (select (cmpi .slt a (broadcastInDim S65536x96 ![] bcast_S_S65536x96 (constantI S_ 32 0#32))) (addi a (broadcastInDim S65536x96 ![] bcast_S_S65536x96 (constantI S_ 32 191#32))) a) shapeCasts_S65536x96_S65536x96x1) (ix3 i p (0 : Fin 1)) = BitVec.ofNat 32 k := by
    pointwise
    rw [ha]
    exact wrap_word hk
  unfold takeOf
  pointwise
  rw [gather_at x _ i p k hk hix, ha, wrap_word hk, inside_word hk]
  rfl

/-! ## The count of edges -/

/-- Folding words by addition from zero sums them. -/
theorem fold_addi {ι : Type} [DecidableEq ι] (s : Finset ι) (f : ι → BitVec 32) : Finset.fold IntOp.addi (0#32) f s = ∑ k ∈ s, f k := by
  induction s using Finset.induction_on with
  | empty => rfl
  | insert a s ha ih => rw [Finset.fold_insert ha, Finset.sum_insert ha, ih]; rfl

/-- The words 1 where a property holds and 0 elsewhere sum to the count of the places where it holds. -/
theorem sum_bits (Q : ℕ → Prop) [DecidablePred Q] (n : ℕ) : (∑ k ∈ Finset.range n, if Q k then (1 : BitVec 32) else 0) = BitVec.ofNat 32 (Nat.count Q n) := by
  induction n with
  | zero => rfl
  | succ n ih =>
    rw [Finset.sum_range_succ, ih, Nat.count_succ, BitVec.ofNat_add]
    split <;> rfl

/-- The sum over the edges of «the edge is at most the draw» is the count of such edges. -/
theorem count_at (W : S65536x191.Idx → EReal) (u : S65536x96.Idx → EReal) (i : Fin 65536) (p : Fin 96) (Q : ℕ → Prop) [DecidablePred Q]
    (hQ : ∀ k : Fin 191, W (ix2 i k) ≤ u (ix2 i p) ↔ Q k.val) :
    (Host.reduce IntOp.addi (extui 32 (cmpf (F := Ideal) (φ := .f32) .ole (broadcastInDim S65536x96x191 ![0, 1, 2] bcast_S65536x1x191_S65536x96x191_0_1_2 (broadcastInDim S65536x1x191 ![0, 2] bcast_S65536x191_S65536x1x191_0_2 W)) (broadcastInDim S65536x96x191 ![0, 1, 2] bcast_S65536x96x1_S65536x96x191_0_1_2 (broadcastInDim S65536x96x1 ![0, 1] bcast_S65536x96_S65536x96x1_0_1 u))) natLt_1_32) (constantI S_ 32 0#32) reducesTo_S65536x96x191_S65536x96_d2 h_S_) (ix2 i p)
      = BitVec.ofNat 32 (Nat.count Q 191) := by
  pointwise
  have hbit : ∀ k : Fin 191, BitVec.setWidth 32 (BitVec.ofBool (decide (W (ix2 i k) ≤ u (ix2 i p)))) = (fun k : ℕ => if Q k then (1 : BitVec 32) else 0) k.val := by
    intro k
    by_cases h : Q k.val
    · rw [decide_eq_true ((hQ k).2 h)]; simp [h]
    · rw [decide_eq_false (fun e => h ((hQ k).1 e))]; simp [h]
  refine (congrArg (fun f => Finset.fold IntOp.addi (0#32) f (Finset.univ : Finset (Fin 191))) (funext hbit)).trans ?_
  rw [fold_addi, Fin.sum_univ_eq_sum_range (fun k : ℕ => if Q k then (1 : BitVec 32) else 0), sum_bits]

/-! ## The reference's tables and words -/

/-- The reference's inner weights, each with the small constant added. -/
def wtsOf (w : S65536x192.Idx → EReal) : S65536x190.Idx → EReal :=
  addf (F := Ideal) (φ := .f32) (extractStridedSlice S65536x190 ![0, 1] w slices_S65536x192_S65536x190_0_1) (broadcastInDim S65536x190 ![] bcast_S_S65536x190 (constant (F := Ideal) S_ .f32 0x3727C5AC#32))

/-- The reference's weights over their sum. -/
def pdfOf (w : S65536x192.Idx → EReal) : S65536x190.Idx → EReal :=
  Host.divf (F := Ideal) (φ := .f32) (wtsOf w) (broadcastInDim S65536x190 ![0, 1] bcast_S65536x1_S65536x190_0_1 (broadcastInDim S65536x1 ![0] bcast_S65536_S65536x1_0 (Host.reduceAdd (F := Ideal) (φ := .f32) (wtsOf w) (constant (F := Ideal) S_ .f32 0x00000000#32) reducesTo_S65536x190_S65536_d1 h_S_)))

/-- Their running sum. -/
def sumsOf (w : S65536x192.Idx → EReal) : S65536x190.Idx → EReal :=
  Host.reduceWindowAdd (F := Ideal) (φ := .f32) ![1, 190] ![1, 1] ![0, 189] ![0, 0] (pdfOf w) (broadcastInDim S_ ![] bcast_S_S_ (constant (F := Ideal) S_ .f32 0x00000000#32)) reduceWindows_S65536x190_S65536x190_w1s1p0_0_w190s1p189_0 h_S_

/-- The reference's edges: a zero, then the running sum. -/
def cdfOf (w : S65536x192.Idx → EReal) : S65536x191.Idx → EReal :=
  concatenate S65536x191 1 [⟨S65536x1, (broadcastInDim S65536x1 ![] bcast_S_S65536x1 (constant (F := Ideal) S_ .f32 0x00000000#32))⟩, ⟨S65536x190, sumsOf w⟩] concatenates_S65536x1_S65536x190_S65536x191_d1

/-- The reference's midpoints. -/
def midOf (z : S65536x192.Idx → EReal) : S65536x191.Idx → EReal :=
  mulf (F := Ideal) (φ := .f32) (broadcastInDim S65536x191 ![] bcast_S_S65536x191 (constant (F := Ideal) S_ .f32 0x3F000000#32)) (addf (F := Ideal) (φ := .f32) (extractStridedSlice S65536x191 ![0, 0] z slices_S65536x192_S65536x191_0_0) (extractStridedSlice S65536x191 ![0, 1] z slices_S65536x192_S65536x191_0_1))

/-- An inner weight of the reference, at a place of a row. -/
theorem wtsOf_at (w : S65536x192.Idx → EReal) (i : Fin 65536) (k : ℕ) (hk : k < 190) : wtsOf w (ix2 i (Fin.ofNat 190 k)) = wt w i k := by
  unfold wtsOf
  pointwise
  rw [Ray.wt_of_lt w i hk]
  show w _ + eps = w _ + eps
  refine congrArg (fun y => w y + eps) (ext2 ?_ ?_)
  · rfl
  · show 1 + k % 190 = (k + 1) % 192
    omega

/-- A weight of the reference over the row's sum. -/
theorem pdfOf_at (w : S65536x192.Idx → EReal) (i : Fin 65536) (k : ℕ) (hk : k < 190) :
    pdfOf w (ix2 i (Fin.ofNat 190 k)) = Ideal.div (wt w i k) (∑ j ∈ Finset.range 190, wt w i j) := by
  unfold pdfOf
  pointwise
  have hsum : (∑ x : Fin 190, wtsOf w (ix2 i x)) = ∑ j ∈ Finset.range 190, wt w i j := by
    rw [← Fin.sum_univ_eq_sum_range (fun j => wt w i j)]
    refine Finset.sum_congr rfl fun x _ => ?_
    rw [← wtsOf_at w i x.val x.isLt]
    exact congrArg (fun y => wtsOf w (ix2 i y)) (Fin.ext (Nat.mod_eq_of_lt x.isLt).symm)
  exact congrArg₂ Ideal.div (wtsOf_at w i k hk) hsum

/-- The small constant is positive. -/
theorem eps_pos : 0 < eps := by
  have h : eps = (((10995116 : ℝ) * 2 ^ (-40 : ℤ) : ℝ) : EReal) := by
    simp [eps, Ideal.ofBits, Ideal.ieee, -EReal.coe_mul]
  rw [h]
  exact EReal.coe_pos.mpr (by positivity)

/-- The running sum of the weights, at a place of a row. -/
theorem sumsOf_at (w : S65536x192.Idx → EReal) (i : Fin 65536) (j : Fin 190) :
    sumsOf w (ix2 i j) = ∑ k ∈ Finset.range (j.val + 1), pdfOf w (ix2 i (Fin.ofNat 190 k)) := by
  unfold sumsOf
  refine Eq.trans (b := Ideal.hostReduceWindowAdd ![1, 190] ![1, 1] ![0, 189] ![0, 0] reduceWindows_S65536x190_S65536x190_w1s1p0_0_w190s1p189_0 (pdfOf w) (Ideal.ofBits .f32 0x00000000#32) (ix2 i j)) rfl ?_
  rw [Ideal.ofBits_zero_f32]
  exact cumsum_at _ i j _

/-- Weights that are not negative, with the constant added, are positive. -/
theorem wt_pos (w : S65536x192.Idx → EReal) (hw : ∀ (i : Fin 65536) (k : ℕ), k < 190 → 0 ≤ w (ix2 i (Fin.ofNat 192 (k + 1)))) (i : Fin 65536) (k : ℕ) : 0 < wt w i k :=
  lt_of_lt_of_le eps_pos (le_add_of_nonneg_left (hw i _ (by omega)))

/-- The sum of a row's weights is positive. -/
theorem tot_pos (w : S65536x192.Idx → EReal) (hw : ∀ (i : Fin 65536) (k : ℕ), k < 190 → 0 ≤ w (ix2 i (Fin.ofNat 192 (k + 1)))) (i : Fin 65536) : 0 < ∑ k ∈ Finset.range 190, wt w i k := by
  rw [Finset.sum_range_succ]
  exact lt_of_lt_of_le (wt_pos w hw i 189) (le_add_of_nonneg_left (Finset.sum_nonneg fun k _ => (wt_pos w hw i k).le))

/-- The reference's edge, at a place of a row. -/
theorem cdfOf_at (w : S65536x192.Idx → EReal) (hw : ∀ (i : Fin 65536) (k : ℕ), k < 190 → 0 ≤ w (ix2 i (Fin.ofNat 192 (k + 1)))) (i : Fin 65536) (j : ℕ) (hj : j < 191) :
    cdfOf w (ix2 i (Fin.ofNat 191 j)) = edge w i j := by
  unfold cdfOf
  pointwise
  have hj' : (Fin.ofNat 191 j).val = j := Nat.mod_eq_of_lt hj
  rw [← Ray.sum_div (wt w i) _ (fun k => (wt_pos w hw i k).le) (tot_pos w hw i) j |>.trans (rfl : _ = edge w i j)]
  split
  · next h =>
    rw [show j = 0 by omega]
    rfl
  · next h =>
    rw [sumsOf_at]
    refine (Finset.sum_congr (congrArg Finset.range (?_ : (Fin.ofNat 191 j).val - 1 + 1 = j)) fun k hk => pdfOf_at w i k ?_)
    · omega
    · have := Finset.mem_range.1 hk
      omega

/-- The reference's midpoint, at a place of a row. -/
theorem midOf_at (z : S65536x192.Idx → EReal) (i : Fin 65536) (j : ℕ) (hj : j < 191) :
    midOf z (ix2 i (Fin.ofNat 191 j)) = mid z i j := by
  unfold midOf
  pointwise
  have h0 : (ix2 i ⟨(Fin.ofNat 191 j).val, by have := (Fin.ofNat 191 j).isLt; omega⟩ : S65536x192.Idx) = ix2 i (Fin.ofNat 192 j) :=
    ext2 rfl (show j % 191 = j % 192 by omega)
  have h1 : (ix2 i ⟨1 + (Fin.ofNat 191 j).val, by have := (Fin.ofNat 191 j).isLt; omega⟩ : S65536x192.Idx) = ix2 i (Fin.ofNat 192 (j + 1)) :=
    ext2 rfl (show 1 + j % 191 = (j + 1) % 192 by omega)
  exact congrArg₂ (fun x y => Ideal.ofBits .f32 0x3F000000#32 * (z x + z y)) h0 h1

/-- The reference's count of edges at most the draw. -/
def countOf (W : S65536x191.Idx → EReal) (u : S65536x96.Idx → EReal) : IVec S65536x96 32 :=
  Host.reduce IntOp.addi (extui 32 (cmpf (F := Ideal) (φ := .f32) .ole (broadcastInDim S65536x96x191 ![0, 1, 2] bcast_S65536x1x191_S65536x96x191_0_1_2 (broadcastInDim S65536x1x191 ![0, 2] bcast_S65536x191_S65536x1x191_0_2 W)) (broadcastInDim S65536x96x191 ![0, 1, 2] bcast_S65536x96x1_S65536x96x191_0_1_2 (broadcastInDim S65536x96x1 ![0, 1] bcast_S65536x96_S65536x96x1_0_1 u))) natLt_1_32) (constantI S_ 32 0#32) reducesTo_S65536x96x191_S65536x96_d2 h_S_

/-- The word of the interval's lower edge. -/
def loOf (a : IVec S65536x96 32) : IVec S65536x96 32 :=
  minsi (broadcastInDim S65536x96 ![] bcast_S_S65536x96 (id (constantI S_ 32 190#32))) (maxsi (broadcastInDim S65536x96 ![] bcast_S_S65536x96 (id (constantI S_ 32 0#32))) (subi a (broadcastInDim S65536x96 ![] bcast_S_S65536x96 (constantI S_ 32 1#32))))

/-- The word of the interval's upper edge. -/
def hiOf (a : IVec S65536x96 32) : IVec S65536x96 32 :=
  minsi (broadcastInDim S65536x96 ![] bcast_S_S65536x96 (id (constantI S_ 32 190#32))) (maxsi (broadcastInDim S65536x96 ![] bcast_S_S65536x96 (id (constantI S_ 32 0#32))) a)

/-- The lower edge's word holds one less than the count. -/
theorem loOf_at (a : IVec S65536x96 32) (x : S65536x96.Idx) (n : ℕ) (hn : n ≤ 191) (ha : a x = BitVec.ofNat 32 n) : loOf a x = BitVec.ofNat 32 (n - 1) := by
  unfold loOf
  pointwise
  rw [ha]
  rcases Nat.eq_zero_or_pos n with rfl | h1
  · decide
  · rw [Ray.sub_word h1]
    refine (Routing.clip_word (x := n - 1) (lo := 0) (hi := 190) (by omega) (by omega) (by omega)).trans ?_
    rw [Nat.max_zero, Nat.min_eq_left (by omega)]

/-- The upper edge's word holds the count, at most 190. -/
theorem hiOf_at (a : IVec S65536x96 32) (x : S65536x96.Idx) (n : ℕ) (hn : n ≤ 191) (ha : a x = BitVec.ofNat 32 n) : hiOf a x = BitVec.ofNat 32 (min n 190) := by
  unfold hiOf
  pointwise
  rw [ha]
  refine (Routing.clip_word (x := n) (lo := 0) (hi := 190) (by omega) (by omega) (by omega)).trans ?_
  rw [Nat.max_zero]

/-- The reference's interpolation between two tables of edges and two of midpoints. -/
def lerpOf (u c0 c1 b0 b1 : S65536x96.Idx → EReal) : S65536x96.Idx → EReal :=
  addf (F := Ideal) (φ := .f32) b0 (mulf (F := Ideal) (φ := .f32) (Host.divf (F := Ideal) (φ := .f32) (subf (F := Ideal) (φ := .f32) u c0) (select (cmpf (F := Ideal) (φ := .f32) .olt (subf (F := Ideal) (φ := .f32) c1 c0) (broadcastInDim S65536x96 ![] bcast_S_S65536x96 (constant (F := Ideal) S_ .f32 0x3727C5AC#32))) (broadcastInDim S65536x96 ![] bcast_S_S65536x96 (constant (F := Ideal) S_ .f32 0x3F800000#32)) (subf (F := Ideal) (φ := .f32) c1 c0))) (subf (F := Ideal) (φ := .f32) b1 b0))

/-- It interpolates entry by entry. -/
theorem lerpOf_at (u c0 c1 b0 b1 : S65536x96.Idx → EReal) (x : S65536x96.Idx) :
    lerpOf u c0 c1 b0 b1 x = Ray.lerpN (F := Ideal) (u x) (c0 x) (c1 x) (b0 x) (b1 x) := rfl

/-- The reference's result of the depths, the weights and the draws. -/
def refOf (z w : S65536x192.Idx → EReal) (u : S65536x96.Idx → EReal) : S65536x96.Idx → EReal :=
  let lo := loOf (countOf (cdfOf w) u)
  let hi := hiOf (countOf (cdfOf w) u)
  lerpOf u (takeOf (cdfOf w) lo) (takeOf (cdfOf w) hi) (takeOf (midOf z) lo) (takeOf (midOf z) hi)

/-- The count at a draw. -/
theorem countOf_at (W : S65536x191.Idx → EReal) (u : S65536x96.Idx → EReal) (i : Fin 65536) (p : Fin 96) (Q : ℕ → Prop) [DecidablePred Q]
    (hQ : ∀ k : Fin 191, W (ix2 i k) ≤ u (ix2 i p) ↔ Q k.val) : countOf W u (ix2 i p) = BitVec.ofNat 32 (Nat.count Q 191) := by
  unfold countOf
  exact count_at W u i p Q hQ

/-- The kernel's value of a ray's draw is the reference's, where no inner weight is negative. -/
theorem refOf_at (z w : S65536x192.Idx → EReal) (hw : ∀ (i : Fin 65536) (k : ℕ), k < 190 → 0 ≤ w (ix2 i (Fin.ofNat 192 (k + 1)))) (u : S65536x96.Idx → EReal) (i : Fin 65536) (p : Fin 96) :
    refOf z w u (ix2 i p) = Ray.ray (F := Ideal) (fun k => Ray.cdfArr (F := Ideal) w (ix2 i k)) (fun k => Ray.midArr (F := Ideal) z (ix2 i k)) (u (ix2 i p)) := by
  classical
  have hmono := Ray.edge_mono (wt w i) _ (fun k => (wt_pos w hw i k).le) (tot_pos w hw i)
  let n := Nat.count (fun k => edge w i k ≤ u (ix2 i p)) 191
  have hn : n ≤ 191 := Nat.count_le _
  have hc : countOf (cdfOf w) u (ix2 i p) = BitVec.ofNat 32 n := by
    refine countOf_at _ _ _ _ _ fun k => ?_
    rw [← cdfOf_at w hw i k.val k.isLt]
    rw [show Fin.ofNat 191 k.val = k from Fin.ext (Nat.mod_eq_of_lt k.isLt)]
  have hf : Ray.findN (F := Ideal) (fun k => Ray.cdfArr (F := Ideal) w (ix2 i k)) (u (ix2 i p)) = n := by
    refine Ray.findN_of _ _ _ (fun k hk => ?_) hn
    rw [Ray.cdfArr_apply w i k hk]
    refine Iff.trans ?_ (Ray.lt_count_iff (fun k => edge w i k ≤ u (ix2 i p)) (fun a b hab hb => (hmono hab).trans hb) hk)
    show BitVec.ofBool (decide (edge w i k ≤ u (ix2 i p))) = 1#1 ↔ _
    by_cases h : edge w i k ≤ u (ix2 i p) <;> simp [h]
  have hl := loOf_at _ _ n hn hc
  have hh := hiOf_at _ _ n hn hc
  unfold refOf Ray.ray
  rw [lerpOf_at, hf, takeOf_at (cdfOf w) _ i p _ (by omega) hl, takeOf_at (cdfOf w) _ i p _ (by omega) hh,
    takeOf_at (midOf z) _ i p _ (by omega) hl, takeOf_at (midOf z) _ i p _ (by omega) hh,
    cdfOf_at w hw i _ (by omega), cdfOf_at w hw i _ (by omega), midOf_at z i _ (by omega), midOf_at z i _ (by omega)]
  dsimp only
  rw [Ray.cdfArr_apply w i _ (by omega), Ray.cdfArr_apply w i _ (by omega), Ray.midArr_apply z i _ (by omega), Ray.midArr_apply z i _ (by omega)]

end Cert.Proof.Refn

end
-- ==== Proof.Value.lean ====
/-
  The value claim: where no inner weight is negative, the kernel and the reference end with the same result.
-/
module

public import proofs.«01_k».proof.Proof.Frames
public import proofs.«01_k».proof.Proof.RefRead
public import proofs.«01_k».proof.Pre_nonnegative_weights
public import Idealize.ShloMosaic.Lib.ReduceAll

@[expose] public section

noncomputable section

namespace Cert.Proof.Refn

open Cert.ReferenceIdeal Cert.ReferenceIdeal.Gen Cert.ReferenceIdeal.Value
open Idealize.ShloMosaic Idealize.ShloMosaic.TcCoe Idealize.SL.Sem Idealize.ShloMosaic.StableHlo

/-! ## The precondition, decoded -/

/-- The side conditions of the precondition's operations. -/
instance preFacts : Cert.Pre_nonnegative_weights.Facts where
  slices_S65536x192_S65536x190_0_1 := by decide
  bcast_S_S65536x190 := by decide
  reducesTo_S65536x190_S_d0_1 := by decide
  h_S_ := by decide

/-- The precondition's word is 1 exactly where no inner weight is negative. -/
theorem weights_nonneg (a0 a1 : Cert.Pre_nonnegative_weights.S65536x3.Idx → EReal) (z w : S65536x192.Idx → EReal) (u : S65536x96.Idx → EReal) (n : IVec S_ 32)
    (h : Cert.Pre_nonnegative_weights.fn (F := Ideal) a0 a1 z w u n = fun _ => 1#1) :
    ∀ (i : Fin 65536) (k : ℕ), k < 190 → 0 ≤ w (ix2 i (Fin.ofNat 192 (k + 1))) := by
  intro i k hk
  have h1 := congrFun h (Shape.Idx.first (by decide))
  unfold Cert.Pre_nonnegative_weights.fn at h1
  dsimp only at h1
  have h2 := Host.reduce_andi_all _ _ _ _ _ h1 (ix2 i (Fin.ofNat 190 k))
  change BitVec.ofBool (decide (Ideal.ofBits .f32 0x00000000#32 ≤ extractStridedSlice Cert.Pre_nonnegative_weights.S65536x190 ![0, 1] w
    Cert.Pre_nonnegative_weights.Facts.slices_S65536x192_S65536x190_0_1 (ix2 i (Fin.ofNat 190 k)))) = 1#1 at h2
  have hx : extractStridedSlice Cert.Pre_nonnegative_weights.S65536x190 ![0, 1] w
      Cert.Pre_nonnegative_weights.Facts.slices_S65536x192_S65536x190_0_1 (ix2 i (Fin.ofNat 190 k)) = w (ix2 i (Fin.ofNat 192 (k + 1))) := by
    refine congrArg w (Ray.ext2 ?_ ?_)
    · show 0 + i.val = i.val
      omega
    · show 1 + k % 190 = (k + 1) % 192
      omega
  rw [hx] at h2
  rw [Ideal.ofBits_zero_f32] at h2
  by_contra hc
  rw [decide_eq_false hc] at h2
  exact absurd h2 (by decide)

/-! ## The reference's result as the tables' -/

/-- The edges. -/
theorem cdf_eq (V : Valuation τ sig (Elt Ideal)) : res_main_v15 V = cdfOf (V (Proc.devRef .tc main_arg3)) := rfl
/-- The midpoints. -/
theorem mid_eq (V : Valuation τ sig (Elt Ideal)) : res_main_v4 V = midOf (V (Proc.devRef .tc main_arg2)) := rfl
/-- The count. -/
theorem count_eq (V : Valuation τ sig (Elt Ideal)) : res_main_v22 V = countOf (res_main_v15 V) (V (Proc.devRef .tc main_arg4)) := rfl
/-- The lower edge's word. -/
theorem lo_eq (V : Valuation τ sig (Elt Ideal)) : res_main_v25 V = loOf (res_main_v22 V) := rfl
/-- The upper edge's word. -/
theorem hi_eq (V : Valuation τ sig (Elt Ideal)) : res_main_v26 V = hiOf (res_main_v22 V) := rfl
/-- The lower edge. -/
theorem take27_eq (V : Valuation τ sig (Elt Ideal)) : res_main_v27 V = takeOf (res_main_v15 V) (res_main_v25 V) := rfl
/-- The lower midpoint. -/
theorem take29_eq (V : Valuation τ sig (Elt Ideal)) : res_main_v29 V = takeOf (res_main_v4 V) (res_main_v25 V) := rfl
/-- The interval's width. -/
theorem diff31_eq (V : Valuation τ sig (Elt Ideal)) :
    res_main_v31 V = subf (F := Ideal) (φ := .f32) (takeOf (res_main_v15 V) (res_main_v26 V)) (res_main_v27 V) := rfl

/-- The reference's result buffer, as `refOf` of its arguments. -/
theorem result_eq (V : Valuation τ sig (Elt Ideal)) :
    (addf (F := Ideal) (φ := .f32) (res_main_v29 V) (mulf (F := Ideal) (φ := .f32) (Host.divf (F := Ideal) (φ := .f32) (subf (F := Ideal) (φ := .f32) (V (Proc.devRef .tc main_arg4)) (res_main_v27 V))
      (select (cmpf (F := Ideal) (φ := .f32) .olt (res_main_v31 V) (broadcastInDim S65536x96 ![] bcast_S_S65536x96 (constant (F := Ideal) S_ .f32 0x3727C5AC#32))) (broadcastInDim S65536x96 ![] bcast_S_S65536x96 (constant (F := Ideal) S_ .f32 0x3F800000#32)) (res_main_v31 V)))
      (subf (F := Ideal) (φ := .f32) (takeOf (res_main_v4 V) (res_main_v26 V)) (res_main_v29 V))) : S65536x96.Idx → EReal)
      = refOf (V (Proc.devRef .tc main_arg2)) (V (Proc.devRef .tc main_arg3)) (V (Proc.devRef .tc main_arg4)) := by
  rw [diff31_eq, take27_eq, take29_eq, hi_eq, lo_eq, count_eq, cdf_eq, mid_eq]
  rfl

/-- Every run of the reference ends with `refOf` of its arguments, and its arguments as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) = refOf (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq (launchContents m c)), (h c).2⟩) (Value.run (F := Ideal) m ρ)

/-! ## The claims under the precondition -/

/-- The kernel's frame, of the runs the value claim speaks of. -/
theorem frame_kernelIdeal_pre : Cert.quiescent_KernelIdeal_pre_nonnegative_weights := fun m ρ _ => Ray.frame_kernelIdeal m ρ trivial

/-- The reference's frame, of the same runs. -/
theorem frame_referenceIdeal_pre : Cert.quiescent_ReferenceIdeal_pre_nonnegative_weights := fun m ρ _ => Ray.frame_referenceIdeal m ρ trivial

/-- The kernel's result is the reference's, where no inner weight is negative. -/
theorem res_eq (m : (ℓ : Loc Cert.KernelIdeal.nD Cert.KernelIdeal.τ Cert.KernelIdeal.sig) → Buf (Elt Ideal) ℓ) (d : Dev Cert.KernelIdeal.nD)
    (z w : S65536x192.Idx → EReal) (u : S65536x96.Idx → EReal)
    (hz : m ((SparseCore.T d).loc Cert.KernelIdeal.main_arg2) = z) (hwe : m ((SparseCore.T d).loc Cert.KernelIdeal.main_arg3) = w)
    (hu : m ((SparseCore.T d).loc Cert.KernelIdeal.main_arg4) = u) (hw : ∀ (i : Fin 65536) (k : ℕ), k < 190 → 0 ≤ w (ix2 i (Fin.ofNat 192 (k + 1)))) : Ray.resOf (F := Ideal) m d = refOf z w u := by
  subst hz hwe hu
  funext x
  have hx : x = ix2 (x 0) (x 1) := Ray.ext2 rfl rfl
  refine Eq.trans ?_ ((refOf_at _ _ hw _ (x 0) (x 1)).symm.trans (congrArg _ hx.symm))
  exact congrArg (fun y : S65536x96.Idx => Ray.ray (F := Ideal) (fun k => Ray.gcOf (F := Ideal) m d (ix2 (x 0) k)) (fun k => Ray.gzOf (F := Ideal) m d (ix2 (x 0) k))
    ((m ((SparseCore.T d).loc Cert.KernelIdeal.main_arg4) : S65536x96.Idx → EReal) y)) hx

/-- Where no inner weight is negative, the kernel and the reference, run over the extended reals from the same arguments, end with the same result. -/
theorem algebraic : Cert.algebraic_KernelIdeal_ReferenceIdeal_pre_nonnegative_weights := by
  intro m g m' g' hpre hargs
  refine ⟨fun c => Ray.resOf (F := Ideal) m c, ?_, ?_⟩
  · exact (θ_run Cert.KernelIdeal.defs Cert.KernelIdeal.threads _).mono (fun _ h c => ⟨(h.1 c).2, Ray.args_of m _ c (h.1 c).1⟩) (Ray.run_main (F := Ideal) m g)
  · refine (θ_run Cert.ReferenceIdeal.defs (onTc (τ := τ) (main (F := Ideal))) _).mono (fun _ h c => ⟨(h c).1.trans ?_, (h c).2⟩) (run_ref m' g')
    obtain ⟨-, -, e2, e3, e4, -⟩ := hargs c
    exact (res_eq m c _ _ _ e2.symm e3.symm e4.symm (e3 ▸ weights_nonneg _ _ _ _ _ _ (hpre c))).symm

end Cert.Proof.Refn

end
-- ==== Proof.lean ====
/-
  Every claim of `Cert.Claim`, from the modules under Proof/: the frames, that nothing was rewritten between the two
  printings of the kernel, and that the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim stated in the statement. -/
theorem claim : Cert.Claim := ⟨Cert.Kernel.Gen.facts, Cert.KernelIdeal.Gen.facts, Cert.ReferenceIdeal.Gen.facts, Refn.preFacts,
  Ray.frame_kernel, Ray.frame_kernelIdeal, Refn.frame_kernelIdeal_pre, Ray.frame_referenceIdeal, Refn.frame_referenceIdeal_pre, trivial, Refn.algebraic⟩

end Cert.Proof

end
